-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_in_range_inputs_finite [hPre_labels_in_range_inputs_finite : Cert.Pre_labels_in_range_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_in_range_inputs_finite [hPre_labels_in_range_inputs_finite : Cert.Pre_labels_in_range_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_range_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_labels_in_range_inputs_finite [hKernelIdeal : Cert.KernelIdeal.Facts] [hPre_labels_in_range_inputs_finite : Cert.Pre_labels_in_range_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_in_range_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_labels_in_range_inputs_finite [hReferenceIdeal : Cert.ReferenceIdeal.Facts] [hPre_labels_in_range_inputs_finite : Cert.Pre_labels_in_range_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_in_range_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_labels_in_range_inputs_finite [hKernelIdeal : Cert.KernelIdeal.Facts] [hReferenceIdeal : Cert.ReferenceIdeal.Facts] [hPre_labels_in_range_inputs_finite : Cert.Pre_labels_in_range_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_in_range_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v267) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_labels_in_range_inputs_finite : Cert.Pre_labels_in_range_inputs_finite.Facts),
    quiescent_Kernel (hKernel := hKernel)
    ∧ quiescent_KernelIdeal (hKernelIdeal := hKernelIdeal)
    ∧ quiescent_KernelIdeal_pre_labels_in_range_inputs_finite (hKernelIdeal := hKernelIdeal) (hPre_labels_in_range_inputs_finite := hPre_labels_in_range_inputs_finite)
    ∧ quiescent_ReferenceIdeal (hReferenceIdeal := hReferenceIdeal)
    ∧ quiescent_ReferenceIdeal_pre_labels_in_range_inputs_finite (hReferenceIdeal := hReferenceIdeal) (hPre_labels_in_range_inputs_finite := hPre_labels_in_range_inputs_finite)
    ∧ preserves_Kernel_KernelIdeal
    ∧ algebraic_KernelIdeal_ReferenceIdeal_pre_labels_in_range_inputs_finite (hKernelIdeal := hKernelIdeal) (hReferenceIdeal := hReferenceIdeal) (hPre_labels_in_range_inputs_finite := hPre_labels_in_range_inputs_finite)
-- ==== Pre_labels_in_range_inputs_finite.lean ====
abbrev S1x384x512x21 : Shape := ⟨4, ![1, 384, 512, 21]⟩
abbrev S1x384x512x3 : Shape := ⟨4, ![1, 384, 512, 3]⟩
abbrev S1x384x512 : Shape := ⟨3, ![1, 384, 512]⟩
abbrev S21x21 : Shape := ⟨2, ![21, 21]⟩
abbrev S3x21 : Shape := ⟨2, ![3, 21]⟩
abbrev S3 : Shape := ⟨1, ![3]⟩
abbrev S_ : Shape := ⟨0, ![]⟩

class Facts : Prop where
  bcast_S_S1x384x512 : S_.BroadcastsInDim S1x384x512 (![] : Fin 0 → Fin S1x384x512.rank)
  reducesTo_S1x384x512_S_d0_1_2 : S1x384x512.ReducesTo [0, 1, 2] S_
  h_S_ : 0 < S_.numel
  bcast_S_S1x384x512x21 : S_.BroadcastsInDim S1x384x512x21 (![] : Fin 0 → Fin S1x384x512x21.rank)
  reducesTo_S1x384x512x21_S_d0_1_2_3 : S1x384x512x21.ReducesTo [0, 1, 2, 3] S_
  bcast_S_S21x21 : S_.BroadcastsInDim S21x21 (![] : Fin 0 → Fin S21x21.rank)
  reducesTo_S21x21_S_d0_1 : S21x21.ReducesTo [0, 1] S_
  bcast_S_S3x21 : S_.BroadcastsInDim S3x21 (![] : Fin 0 → Fin S3x21.rank)
  reducesTo_S3x21_S_d0_1 : S3x21.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_v45 : IVec S_ 1) (main_v51 : IVec S21x21 1) : IVec S_ 1 :=
  let main_c_18 : IVec S_ 1 := constantI S_ 1 1#1
  let main_v52 : IVec S_ 1 := (fun x v => Host.reduce IntOp.andi x v reducesTo_S21x21_S_d0_1 h_S_) main_v51 main_c_18
  let main_v53 : IVec S_ 1 := andi main_v45 main_v52
  main_v53

def fn_part2 {F : FTy → Type} [FloatOps F] (main_arg5 : FVec F S3x21 .f32) (main_arg6 : FVec F S3 .f32) (main_arg7 : FVec F S21x21 .f32) (main_v29 : IVec S_ 1) (main_v32 : IVec S3x21 1) (main_v33 : FVec F S3x21 .f32) : IVec S_ 1 :=
  let main_v34 : IVec S3x21 1 := cmpf .olt main_arg5 main_v33
  let main_v35 : IVec S3x21 1 := andi main_v32 main_v34
  let main_c_12 : IVec S_ 1 := constantI S_ 1 1#1
  let main_v36 : IVec S_ 1 := (fun x v => Host.reduce IntOp.andi x v reducesTo_S3x21_S_d0_1 h_S_) main_v35 main_c_12
  let main_v37 : IVec S_ 1 := andi main_v29 main_v36
  let main_cst_13 : FVec F S_ .f32 := constant S_ .f32 0x7F800000#32
  let main_v38 : FVec F S_ .f32 := Host.negf main_cst_13
  let main_v39 : FVec F S3 .f32 := broadcastInDim S3 ![] bcast_S_S3 main_v38
  let main_v40 : IVec S3 1 := cmpf .ogt main_arg6 main_v39
  let main_cst_14 : FVec F S_ .f32 := constant S_ .f32 0x7F800000#32
  let main_v41 : FVec F S3 .f32 := broadcastInDim S3 ![] bcast_S_S3 main_cst_14
  let main_v42 : IVec S3 1 := cmpf .olt main_arg6 main_v41
  let main_v43 : IVec S3 1 := andi main_v40 main_v42
  let main_c_15 : IVec S_ 1 := constantI S_ 1 1#1
  let main_v44 : IVec S_ 1 := (fun x v => Host.reduce IntOp.andi x v reducesTo_S3_S_d0 h_S_) main_v43 main_c_15
  let main_v45 : IVec S_ 1 := andi main_v37 main_v44
  let main_cst_16 : FVec F S_ .f32 := constant S_ .f32 0x7F800000#32
  let main_v46 : FVec F S_ .f32 := Host.negf main_cst_16
  let main_v47 : FVec F S21x21 .f32 := broadcastInDim S21x21 ![] bcast_S_S21x21 main_v46
  let main_v48 : IVec S21x21 1 := cmpf .ogt main_arg7 main_v47
  let main_cst_17 : FVec F S_ .f32 := constant S_ .f32 0x7F800000#32
  let main_v49 : FVec F S21x21 .f32 := broadcastInDim S21x21 ![] bcast_S_S21x21 main_cst_17
  let main_v50 : IVec S21x21 1 := cmpf .olt main_arg7 main_v49
  let main_v51 : IVec S21x21 1 := andi main_v48 main_v50
  fn_part3 (F := F) main_v45 main_v51

def fn_part1 {F : FTy → Type} [FloatOps F] (main_arg3 : FVec F S21x21 .f32) (main_arg4 : FVec F S21x21 .f32) (main_arg5 : FVec F S3x21 .f32) (main_arg6 : FVec F S3 .f32) (main_arg7 : FVec F S21x21 .f32) (main_v13 : IVec S_ 1) (main_v16 : IVec S21x21 1) : IVec S_ 1 :=
  let main_cst_5 : FVec F S_ .f32 := constant S_ .f32 0x7F800000#32
  let main_v17 : FVec F S21x21 .f32 := broadcastInDim S21x21 ![] bcast_S_S21x21 main_cst_5
  let main_v18 : IVec S21x21 1 := cmpf .olt main_arg3 main_v17
  let main_v19 : IVec S21x21 1 := andi main_v16 main_v18
  let main_c_6 : IVec S_ 1 := constantI S_ 1 1#1
  let main_v20 : IVec S_ 1 := (fun x v => Host.reduce IntOp.andi x v reducesTo_S21x21_S_d0_1 h_S_) main_v19 main_c_6
  let main_v21 : IVec S_ 1 := andi main_v13 main_v20
  let main_cst_7 : FVec F S_ .f32 := constant S_ .f32 0x7F800000#32
  let main_v22 : FVec F S_ .f32 := Host.negf main_cst_7
  let main_v23 : FVec F S21x21 .f32 := broadcastInDim S21x21 ![] bcast_S_S21x21 main_v22
  let main_v24 : IVec S21x21 1 := cmpf .ogt main_arg4 main_v23
  let main_cst_8 : FVec F S_ .f32 := constant S_ .f32 0x7F800000#32
  let main_v25 : FVec F S21x21 .f32 := broadcastInDim S21x21 ![] bcast_S_S21x21 main_cst_8
  let main_v26 : IVec S21x21 1 := cmpf .olt main_arg4 main_v25
  let main_v27 : IVec S21x21 1 := andi main_v24 main_v26
  let main_c_9 : IVec S_ 1 := constantI S_ 1 1#1
  let main_v28 : IVec S_ 1 := (fun x v => Host.reduce IntOp.andi x v reducesTo_S21x21_S_d0_1 h_S_) main_v27 main_c_9
  let main_v29 : IVec S_ 1 := andi main_v21 main_v28
  let main_cst_10 : FVec F S_ .f32 := constant S_ .f32 0x7F800000#32
  let main_v30 : FVec F S_ .f32 := Host.negf main_cst_10
  let main_v31 : FVec F S3x21 .f32 := broadcastInDim S3x21 ![] bcast_S_S3x21 main_v30
  let main_v32 : IVec S3x21 1 := cmpf .ogt main_arg5 main_v31
  let main_cst_11 : FVec F S_ .f32 := constant S_ .f32 0x7F800000#32
  let main_v33 : FVec F S3x21 .f32 := broadcastInDim S3x21 ![] bcast_S_S3x21 main_cst_11
  fn_part2 (F := F) main_arg5 main_arg6 main_arg7 main_v29 main_v32 main_v33

def fn {F : FTy → Type} [FloatOps F] (main_arg0 : FVec F S1x384x512x21 .f32) (main_arg1 : FVec F S1x384x512x3 .f32) (main_arg2 : IVec S1x384x512 32) (main_arg3 : FVec F S21x21 .f32) (main_arg4 : FVec F S21x21 .f32) (main_arg5 : FVec F S3x21 .f32) (main_arg6 : FVec F S3 .f32) (main_arg7 : FVec F S21x21 .f32) : IVec S_ 1 :=
  let main_c : IVec S_ 32 := constantI S_ 32 0#32
  let main_v0 : IVec S1x384x512 32 := broadcastInDim S1x384x512 ![] bcast_S_S1x384x512 main_c
  let main_v1 : IVec S1x384x512 1 := cmpi .sge main_arg2 main_v0
  let main_c_0 : IVec S_ 32 := constantI S_ 32 100#32
  let main_v2 : IVec S1x384x512 32 := broadcastInDim S1x384x512 ![] bcast_S_S1x384x512 main_c_0
  let main_v3 : IVec S1x384x512 1 := cmpi .slt main_arg2 main_v2
  let main_v4 : IVec S1x384x512 1 := andi main_v1 main_v3
  let main_c_1 : IVec S_ 1 := constantI S_ 1 1#1
  let main_v5 : IVec S_ 1 := (fun x v => Host.reduce IntOp.andi x v reducesTo_S1x384x512_S_d0_1_2 h_S_) main_v4 main_c_1
  let main_cst : FVec F S_ .f32 := constant S_ .f32 0x7F800000#32
  let main_v6 : FVec F S_ .f32 := Host.negf main_cst
  let main_v7 : FVec F S1x384x512x21 .f32 := broadcastInDim S1x384x512x21 ![] bcast_S_S1x384x512x21 main_v6
  let main_v8 : IVec S1x384x512x21 1 := cmpf .ogt main_arg0 main_v7
  let main_cst_2 : FVec F S_ .f32 := constant S_ .f32 0x7F800000#32
  let main_v9 : FVec F S1x384x512x21 .f32 := broadcastInDim S1x384x512x21 ![] bcast_S_S1x384x512x21 main_cst_2
  let main_v10 : IVec S1x384x512x21 1 := cmpf .olt main_arg0 main_v9
  let main_v11 : IVec S1x384x512x21 1 := andi main_v8 main_v10
  let main_c_3 : IVec S_ 1 := constantI S_ 1 1#1
  let main_v12 : IVec S_ 1 := (fun x v => Host.reduce IntOp.andi x v reducesTo_S1x384x512x21_S_d0_1_2_3 h_S_) main_v11 main_c_3
  let main_v13 : IVec S_ 1 := andi main_v5 main_v12
  let main_cst_4 : FVec F S_ .f32 := constant S_ .f32 0x7F800000#32
  let main_v14 : FVec F S_ .f32 := Host.negf main_cst_4
  let main_v15 : FVec F S21x21 .f32 := broadcastInDim S21x21 ![] bcast_S_S21x21 main_v14
  let main_v16 : IVec S21x21 1 := cmpf .ogt main_arg3 main_v15
  fn_part1 (F := F) main_arg3 main_arg4 main_arg5 main_arg6 main_arg7 main_v13 main_v16
-- ==== Kernel.lean ====
abbrev S1x384x512x21 : Shape := ⟨4, ![1, 384, 512, 21]⟩
abbrev S1x384x512x3 : Shape := ⟨4, ![1, 384, 512, 3]⟩
abbrev S1x384x512 : Shape := ⟨3, ![1, 384, 512]⟩
abbrev S21x21 : Shape := ⟨2, ![21, 21]⟩
abbrev S3x21 : Shape := ⟨2, ![3, 21]⟩
abbrev S3 : Shape := ⟨1, ![3]⟩
abbrev S21x3 : Shape := ⟨2, ![21, 3]⟩
abbrev S1x3 : Shape := ⟨2, ![1, 3]⟩
abbrev S384x512x21 : Shape := ⟨3, ![384, 512, 21]⟩
abbrev S21x384x512 : Shape := ⟨3, ![21, 384, 512]⟩
abbrev S21x196608 : Shape := ⟨2, ![21, 196608]⟩
abbrev S384x512 : Shape := ⟨2, ![384, 512]⟩
abbrev S96x1x2048 : Shape := ⟨3, ![96, 1, 2048]⟩
abbrev S21x128 : Shape := ⟨2, ![21, 128]⟩
abbrev S1x21x384x512 : Shape := ⟨4, ![1, 21, 384, 512]⟩
abbrev S21x2048 : Shape := ⟨2, ![21, 2048]⟩
abbrev S1x1x2048 : Shape := ⟨3, ![1, 1, 2048]⟩
abbrev S2048 : Shape := ⟨1, ![2048]⟩
abbrev S1x2048 : Shape := ⟨2, ![1, 2048]⟩
abbrev S128x2048 : Shape := ⟨2, ![128, 2048]⟩
abbrev S21x1 : Shape := ⟨2, ![21, 1]⟩
abbrev S1x1 : Shape := ⟨2, ![1, 1]⟩

abbrev nBuf : Space → Nat
  | .hbm => 23
  | .vmem => 36
  | .smem => 0
  | _ => 0

abbrev bufTy : (tb : Table) → Fin (tcTables nBuf tb) → BufTy
  | .hbm, ⟨0, _⟩ => ⟨S1x384x512x21, .f32⟩
  | .hbm, ⟨1, _⟩ => ⟨S1x384x512x3, .f32⟩
  | .hbm, ⟨2, _⟩ => ⟨S1x384x512, .i32⟩
  | .hbm, ⟨3, _⟩ => ⟨S21x21, .f32⟩
  | .hbm, ⟨4, _⟩ => ⟨S21x21, .f32⟩
  | .hbm, ⟨5, _⟩ => ⟨S3x21, .f32⟩
  | .hbm, ⟨6, _⟩ => ⟨S3, .f32⟩
  | .hbm, ⟨7, _⟩ => ⟨S21x21, .f32⟩
  | .hbm, ⟨8, _⟩ => ⟨S21x3, .f32⟩
  | .hbm, ⟨9, _⟩ => ⟨S1x3, .f32⟩
  | .hbm, ⟨10, _⟩ => ⟨S384x512x21, .f32⟩
  | .hbm, ⟨11, _⟩ => ⟨S21x384x512, .f32⟩
  | .hbm, ⟨12, _⟩ => ⟨S21x196608, .f32⟩
  | .hbm, ⟨13, _⟩ => ⟨S384x512, .i32⟩
  | .hbm, ⟨14, _⟩ => ⟨S96x1x2048, .i32⟩
  | .hbm, ⟨15, _⟩ => ⟨S21x128, .f32⟩
  | .hbm, ⟨16, _⟩ => ⟨S21x128, .f32⟩
  | .hbm, ⟨17, _⟩ => ⟨S21x196608, .f32⟩
  | .hbm, ⟨18, _⟩ => ⟨S21x128, .f32⟩
  | .hbm, ⟨19, _⟩ => ⟨S21x128, .f32⟩
  | .hbm, ⟨20, _⟩ => ⟨S21x196608, .f32⟩
  | .hbm, ⟨21, _⟩ => ⟨S21x384x512, .f32⟩
  | .hbm, ⟨22, _⟩ => ⟨S1x21x384x512, .f32⟩
  | .local _ .vmem, ⟨0, _⟩ => ⟨S21x2048, .f32⟩
  | .local _ .vmem, ⟨1, _⟩ => ⟨S21x2048, .f32⟩
  | .local _ .vmem, ⟨2, _⟩ => ⟨S1x1x2048, .i32⟩
  | .local _ .vmem, ⟨3, _⟩ => ⟨S1x1x2048, .i32⟩
  | .local _ .vmem, ⟨4, _⟩ => ⟨S21x128, .f32⟩
  | .local _ .vmem, ⟨5, _⟩ => ⟨S21x128, .f32⟩
  | .local _ .vmem, ⟨6, _⟩ => ⟨S21x2048, .f32⟩
  | .local _ .vmem, ⟨7, _⟩ => ⟨S21x2048, .f32⟩
  | .local _ .vmem, ⟨8, _⟩ => ⟨S1x1x2048, .i32⟩
  | .local _ .vmem, ⟨9, _⟩ => ⟨S1x1x2048, .i32⟩
  | .local _ .vmem, ⟨10, _⟩ => ⟨S21x128, .f32⟩
  | .local _ .vmem, ⟨11, _⟩ => ⟨S21x128, .f32⟩
  | .local _ .vmem, ⟨12, _⟩ => ⟨S21x3, .f32⟩
  | .local _ .vmem, ⟨13, _⟩ => ⟨S1x3, .f32⟩
  | .local _ .vmem, ⟨14, _⟩ => ⟨S21x21, .f32⟩
  | .local _ .vmem, ⟨15, _⟩ => ⟨S21x21, .f32⟩
  | .local _ .vmem, ⟨16, _⟩ => ⟨S21x21, .f32⟩
  | .local _ .vmem, ⟨17, _⟩ => ⟨S21x2048, .f32⟩
  | .local _ .vmem, ⟨18, _⟩ => ⟨S21x2048, .f32⟩
  | .local _ .vmem, ⟨19, _⟩ => ⟨S21x128, .f32⟩
  | .local _ .vmem, ⟨20, _⟩ => ⟨S21x128, .f32⟩
  | .local _ .vmem, ⟨21, _⟩ => ⟨S21x2048, .f32⟩
  | .local _ .vmem, ⟨22, _⟩ => ⟨S21x2048, .f32⟩
  | .local _ .vmem, ⟨23, _⟩ => ⟨S21x2048, .f32⟩
  | .local _ .vmem, ⟨24, _⟩ => ⟨S21x2048, .f32⟩
  | .local _ .vmem, ⟨25, _⟩ => ⟨S1x1x2048, .i32⟩
  | .local _ .vmem, ⟨26, _⟩ => ⟨S1x1x2048, .i32⟩
  | .local _ .vmem, ⟨27, _⟩ => ⟨S21x128, .f32⟩
  | .local _ .vmem, ⟨28, _⟩ => ⟨S21x128, .f32⟩
  | .local _ .vmem, ⟨29, _⟩ => ⟨S21x3, .f32⟩
  | .local _ .vmem, ⟨30, _⟩ => ⟨S1x3, .f32⟩
  | .local _ .vmem, ⟨31, _⟩ => ⟨S21x21, .f32⟩
  | .local _ .vmem, ⟨32, _⟩ => ⟨S21x21, .f32⟩
  | .local _ .vmem, ⟨33, _⟩ => ⟨S21x21, .f32⟩
  | .local _ .vmem, ⟨34, _⟩ => ⟨S21x2048, .f32⟩
  | .local _ .vmem, ⟨35, _⟩ => ⟨S21x2048, .f32⟩
  | _, _ => ⟨S1x384x512x21, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7_0 : Ref sig .tc := ⟨.hbm, 15, rfl⟩
abbrev main_call0_v7_1 : Ref sig .tc := ⟨.hbm, 16, rfl⟩
abbrev main_call0_v8_0 : Ref sig .tc := ⟨.hbm, 17, rfl⟩
abbrev main_call0_v8_1 : Ref sig .tc := ⟨.hbm, 18, rfl⟩
abbrev main_call0_v8_2 : Ref sig .tc := ⟨.hbm, 19, rfl⟩
abbrev main_call0_v9 : Ref sig .tc := ⟨.hbm, 20, rfl⟩
abbrev main_call0_v10 : Ref sig .tc := ⟨.hbm, 21, rfl⟩
abbrev main_v0 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg9_1 : Ref sig .tc := ⟨.vmem, 18, rfl⟩
abbrev cc1_stg10_0 : Ref sig .tc := ⟨.vmem, 19, rfl⟩
abbrev cc1_stg11_0 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg8_0 : Ref sig .tc := ⟨.vmem, 32, rfl⟩
abbrev cc2_stg9_0 : Ref sig .tc := ⟨.vmem, 33, rfl⟩
abbrev cc2_stg10_0 : Ref sig .tc := ⟨.vmem, 34, rfl⟩
abbrev cc2_stg10_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem9_1 : DmaSem sig := 18
abbrev cc1_sem10_0 : DmaSem sig := 19
abbrev cc1_sem11_0 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem8_0 : DmaSem sig := 32
abbrev cc2_sem9_0 : DmaSem sig := 33
abbrev cc2_sem10_0 : DmaSem sig := 34
abbrev cc2_sem10_1 : DmaSem sig := 35

abbrev nD : Nat := 1
abbrev τ : Topo := Topo.v7x

variable {F : FTy → Type} [FloatOps F]

abbrev grid0 : Pipeline.Grid := ⟨1, ![96], ![false]⟩

def k0_cond1 (i : grid0.Coords) : BitVec 1 :=
  let arg0 : BitVec 32 := BitVec.ofNat 32 (i 0).val
  let c0_i32 : BitVec 32 := 0#32
  let v42 : BitVec 1 := Scalar.cmpi .eq arg0 c0_i32
  let v43 : BitVec 32 := Scalar.extui v42
  let c0_i32_13 : BitVec 32 := 0#32
  let v44 : BitVec 1 := Scalar.cmpi .ne v43 c0_i32_13
  v44

def k0_cond2 (i : grid0.Coords) : BitVec 1 :=
  let arg0 : BitVec 32 := BitVec.ofNat 32 (i 0).val
  let c0_i32_14 : BitVec 32 := 0#32
  let v45 : BitVec 1 := Scalar.cmpi .ne arg0 c0_i32_14
  let v46 : BitVec 32 := Scalar.extui v45
  let c0_i32_15 : BitVec 32 := 0#32
  let v47 : BitVec 1 := Scalar.cmpi .ne v46 c0_i32_15
  v47

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S21x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S21x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S21x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![96], ![false]⟩

def k1_cond1 (i : grid1.Coords) : BitVec 1 :=
  let arg0 : BitVec 32 := BitVec.ofNat 32 (i 0).val
  let c0_i32 : BitVec 32 := 0#32
  let v139 : BitVec 1 := Scalar.cmpi .eq arg0 c0_i32
  let v140 : BitVec 32 := Scalar.extui v139
  let c0_i32_47 : BitVec 32 := 0#32
  let v141 : BitVec 1 := Scalar.cmpi .ne v140 c0_i32_47
  v141

def k1_cond2 (i : grid1.Coords) : BitVec 1 :=
  let arg0 : BitVec 32 := BitVec.ofNat 32 (i 0).val
  let c0_i32_48 : BitVec 32 := 0#32
  let v142 : BitVec 1 := Scalar.cmpi .ne arg0 c0_i32_48
  let v143 : BitVec 32 := Scalar.extui v142
  let c0_i32_49 : BitVec 32 := 0#32
  let v144 : BitVec 1 := Scalar.cmpi .ne v143 c0_i32_49
  v144

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S21x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x2048 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S21x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S21x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S21x3 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x3 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S21x21 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S21x21 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S21x21 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S21x2048 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S21x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S21x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev grid2 : Pipeline.Grid := ⟨1, ![96], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S21x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S21x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1x2048 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S21x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S21x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S21x3 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x3 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S21x21 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S21x21 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S21x21 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S21x2048 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]
-- ==== ReferenceIdeal.lean ====
abbrev S1x384x512x21 : Shape := ⟨4, ![1, 384, 512, 21]⟩
abbrev S1x384x512x3 : Shape := ⟨4, ![1, 384, 512, 3]⟩
abbrev S1x384x512 : Shape := ⟨3, ![1, 384, 512]⟩
abbrev S21x21 : Shape := ⟨2, ![21, 21]⟩
abbrev S3x21 : Shape := ⟨2, ![3, 21]⟩
abbrev S3 : Shape := ⟨1, ![3]⟩
abbrev S384x512x21 : Shape := ⟨3, ![384, 512, 21]⟩
abbrev S21x384x512 : Shape := ⟨3, ![21, 384, 512]⟩
abbrev S384x512 : Shape := ⟨2, ![384, 512]⟩
abbrev S_ : Shape := ⟨0, ![]⟩
abbrev S196608 : Shape := ⟨1, ![196608]⟩
abbrev S21x196608 : Shape := ⟨2, ![21, 196608]⟩
abbrev S196608x21 : Shape := ⟨2, ![196608, 21]⟩
abbrev S100x21 : Shape := ⟨2, ![100, 21]⟩
abbrev S196608x1 : Shape := ⟨2, ![196608, 1]⟩
abbrev S1x21 : Shape := ⟨2, ![1, 21]⟩
abbrev S21 : Shape := ⟨1, ![21]⟩
abbrev S1 : Shape := ⟨1, ![1]⟩
abbrev S21x1x1 : Shape := ⟨3, ![21, 1, 1]⟩
abbrev S1x21x384x512 : Shape := ⟨4, ![1, 21, 384, 512]⟩

abbrev nBuf : Space → Nat
  | .hbm => 324
  | .vmem => 0
  | .smem => 0
  | _ => 0

abbrev hbmTy0_0 (i : Nat) : BufTy := match i % 128 with
  | 0 => ⟨S1x384x512x21, .f32⟩
  | 1 => ⟨S1x384x512x3, .f32⟩
  | 2 => ⟨S1x384x512, .i32⟩
  | 3 => ⟨S21x21, .f32⟩
  | 4 => ⟨S21x21, .f32⟩
  | 5 => ⟨S3x21, .f32⟩
  | 6 => ⟨S3, .f32⟩
  | 7 => ⟨S21x21, .f32⟩
  | 8 => ⟨S384x512x21, .f32⟩
  | 9 => ⟨S21x384x512, .f32⟩
  | 10 => ⟨S384x512, .i32⟩
  | 11 => ⟨S_, .f32⟩
  | 12 => ⟨S384x512, .f32⟩
  | 13 => ⟨S_, .f32⟩
  | 14 => ⟨S384x512, .f32⟩
  | 15 => ⟨S384x512, .f32⟩
  | 16 => ⟨S1x384x512, .f32⟩
  | 17 => ⟨S21x384x512, .f32⟩
  | 18 => ⟨S21x384x512, .f32⟩
  | 19 => ⟨S21x384x512, .f32⟩
  | 20 => ⟨S_, .f32⟩
  | 21 => ⟨S384x512, .f32⟩
  | 22 => ⟨S1x384x512, .f32⟩
  | 23 => ⟨S21x384x512, .f32⟩
  | 24 => ⟨S21x384x512, .f32⟩
  | 25 => ⟨S196608, .i32⟩
  | 26 => ⟨S_, .f32⟩
  | 27 => ⟨S21x384x512, .f32⟩
  | 28 => ⟨S21x384x512, .f32⟩
  | 29 => ⟨S21x384x512, .f32⟩
  | 30 => ⟨S21x196608, .f32⟩
  | 31 => ⟨S196608x21, .f32⟩
  | 32 => ⟨S_, .f32⟩
  | 33 => ⟨S100x21, .f32⟩
  | 34 => ⟨S196608x1, .i32⟩
  | 35 => ⟨S100x21, .f32⟩
  | 36 => ⟨S_, .i32⟩
  | 37 => ⟨S196608, .i32⟩
  | 38 => ⟨S196608, .i1⟩
  | 39 => ⟨S_, .i32⟩
  | 40 => ⟨S196608, .i32⟩
  | 41 => ⟨S196608, .i32⟩
  | 42 => ⟨S196608, .i32⟩
  | 43 => ⟨S196608x1, .i32⟩
  | 44 => ⟨S196608x21, .f32⟩
  | 45 => ⟨S21x196608, .f32⟩
  | 46 => ⟨S21x384x512, .f32⟩
  | 47 => ⟨S_, .f32⟩
  | 48 => ⟨S21x384x512, .f32⟩
  | 49 => ⟨S21x384x512, .f32⟩
  | 50 => ⟨S_, .f32⟩
  | 51 => ⟨S21x384x512, .f32⟩
  | 52 => ⟨S21x384x512, .f32⟩
  | 53 => ⟨S_, .f32⟩
  | 54 => ⟨S384x512, .f32⟩
  | 55 => ⟨S_, .f32⟩
  | 56 => ⟨S384x512, .f32⟩
  | 57 => ⟨S1x384x512, .f32⟩
  | 58 => ⟨S21x384x512, .f32⟩
  | 59 => ⟨S21x384x512, .i1⟩
  | 60 => ⟨S21x384x512, .f32⟩
  | 61 => ⟨S_, .f32⟩
  | 62 => ⟨S21x384x512, .f32⟩
  | 63 => ⟨S21x384x512, .f32⟩
  | 64 => ⟨S1x384x512, .f32⟩
  | 65 => ⟨S21x384x512, .f32⟩
  | 66 => ⟨S21x384x512, .f32⟩
  | 67 => ⟨S21x384x512, .f32⟩
  | 68 => ⟨S21x384x512, .f32⟩
  | 69 => ⟨S_, .f32⟩
  | 70 => ⟨S21x384x512, .f32⟩
  | 71 => ⟨S21x384x512, .f32⟩
  | 72 => ⟨S21x384x512, .f32⟩
  | 73 => ⟨S21x196608, .f32⟩
  | 74 => ⟨S196608x21, .f32⟩
  | 75 => ⟨S_, .f32⟩
  | 76 => ⟨S100x21, .f32⟩
  | 77 => ⟨S196608x1, .i32⟩
  | 78 => ⟨S100x21, .f32⟩
  | 79 => ⟨S_, .i32⟩
  | 80 => ⟨S196608, .i32⟩
  | 81 => ⟨S196608, .i1⟩
  | 82 => ⟨S_, .i32⟩
  | 83 => ⟨S196608, .i32⟩
  | 84 => ⟨S196608, .i32⟩
  | 85 => ⟨S196608, .i32⟩
  | 86 => ⟨S196608x1, .i32⟩
  | 87 => ⟨S196608x21, .f32⟩
  | 88 => ⟨S21x196608, .f32⟩
  | 89 => ⟨S21x384x512, .f32⟩
  | 90 => ⟨S_, .f32⟩
  | 91 => ⟨S21x384x512, .f32⟩
  | 92 => ⟨S21x384x512, .i1⟩
  | 93 => ⟨S21x384x512, .f32⟩
  | 94 => ⟨S21x384x512, .f32⟩
  | 95 => ⟨S_, .f32⟩
  | 96 => ⟨S21x384x512, .f32⟩
  | 97 => ⟨S21x384x512, .i1⟩
  | 98 => ⟨S21x384x512, .f32⟩
  | 99 => ⟨S21x384x512, .f32⟩
  | 100 => ⟨S1x21, .f32⟩
  | 101 => ⟨S21, .f32⟩
  | 102 => ⟨S1, .f32⟩
  | 103 => ⟨S_, .f32⟩
  | 104 => ⟨S_, .f32⟩
  | 105 => ⟨S21x384x512, .f32⟩
  | 106 => ⟨S21x384x512, .f32⟩
  | 107 => ⟨S21x384x512, .f32⟩
  | 108 => ⟨S21x384x512, .f32⟩
  | 109 => ⟨S21x384x512, .f32⟩
  | 110 => ⟨S21x1x1, .f32⟩
  | 111 => ⟨S21x384x512, .f32⟩
  | 112 => ⟨S21x384x512, .f32⟩
  | 113 => ⟨S_, .f32⟩
  | 114 => ⟨S21x384x512, .f32⟩
  | 115 => ⟨S21x384x512, .f32⟩
  | 116 => ⟨S21x384x512, .f32⟩
  | 117 => ⟨S21x384x512, .f32⟩
  | 118 => ⟨S21x384x512, .f32⟩
  | 119 => ⟨S1x21, .f32⟩
  | 120 => ⟨S21, .f32⟩
  | 121 => ⟨S1, .f32⟩
  | 122 => ⟨S_, .f32⟩
  | 123 => ⟨S_, .f32⟩
  | 124 => ⟨S21x384x512, .f32⟩
  | 125 => ⟨S21x384x512, .f32⟩
  | 126 => ⟨S21x384x512, .f32⟩
  | 127 => ⟨S21x384x512, .f32⟩
  | _ => ⟨S1x384x512x21, .f32⟩

abbrev hbmTy0_1 (i : Nat) : BufTy := match i % 128 with
  | 0 => ⟨S21x384x512, .f32⟩
  | 1 => ⟨S21x1x1, .f32⟩
  | 2 => ⟨S21x384x512, .f32⟩
  | 3 => ⟨S21x384x512, .f32⟩
  | 4 => ⟨S_, .f32⟩
  | 5 => ⟨S21x384x512, .f32⟩
  | 6 => ⟨S21x384x512, .f32⟩
  | 7 => ⟨S21x384x512, .f32⟩
  | 8 => ⟨S21x384x512, .f32⟩
  | 9 => ⟨S21x384x512, .f32⟩
  | 10 => ⟨S1x21, .f32⟩
  | 11 => ⟨S21, .f32⟩
  | 12 => ⟨S1, .f32⟩
  | 13 => ⟨S_, .f32⟩
  | 14 => ⟨S_, .f32⟩
  | 15 => ⟨S21x384x512, .f32⟩
  | 16 => ⟨S21x384x512, .f32⟩
  | 17 => ⟨S21x384x512, .f32⟩
  | 18 => ⟨S21x384x512, .f32⟩
  | 19 => ⟨S21x384x512, .f32⟩
  | 20 => ⟨S21x1x1, .f32⟩
  | 21 => ⟨S21x384x512, .f32⟩
  | 22 => ⟨S21x384x512, .f32⟩
  | 23 => ⟨S_, .f32⟩
  | 24 => ⟨S21x384x512, .f32⟩
  | 25 => ⟨S21x384x512, .f32⟩
  | 26 => ⟨S21x384x512, .f32⟩
  | 27 => ⟨S21x384x512, .f32⟩
  | 28 => ⟨S21x384x512, .f32⟩
  | 29 => ⟨S21x384x512, .f32⟩
  | 30 => ⟨S21x384x512, .f32⟩
  | 31 => ⟨S21x196608, .f32⟩
  | 32 => ⟨S21x196608, .f32⟩
  | 33 => ⟨S21x196608, .f32⟩
  | 34 => ⟨S21x196608, .f32⟩
  | 35 => ⟨S21x196608, .f32⟩
  | 36 => ⟨S21x384x512, .f32⟩
  | 37 => ⟨S21x384x512, .f32⟩
  | 38 => ⟨S21x384x512, .f32⟩
  | 39 => ⟨S_, .f32⟩
  | 40 => ⟨S384x512, .f32⟩
  | 41 => ⟨S_, .f32⟩
  | 42 => ⟨S384x512, .f32⟩
  | 43 => ⟨S384x512, .f32⟩
  | 44 => ⟨S1x384x512, .f32⟩
  | 45 => ⟨S21x384x512, .f32⟩
  | 46 => ⟨S21x384x512, .f32⟩
  | 47 => ⟨S21x384x512, .f32⟩
  | 48 => ⟨S_, .f32⟩
  | 49 => ⟨S384x512, .f32⟩
  | 50 => ⟨S1x384x512, .f32⟩
  | 51 => ⟨S21x384x512, .f32⟩
  | 52 => ⟨S21x384x512, .f32⟩
  | 53 => ⟨S196608, .i32⟩
  | 54 => ⟨S_, .f32⟩
  | 55 => ⟨S21x384x512, .f32⟩
  | 56 => ⟨S21x384x512, .f32⟩
  | 57 => ⟨S21x384x512, .f32⟩
  | 58 => ⟨S21x196608, .f32⟩
  | 59 => ⟨S196608x21, .f32⟩
  | 60 => ⟨S_, .f32⟩
  | 61 => ⟨S100x21, .f32⟩
  | 62 => ⟨S196608x1, .i32⟩
  | 63 => ⟨S100x21, .f32⟩
  | 64 => ⟨S_, .i32⟩
  | 65 => ⟨S196608, .i32⟩
  | 66 => ⟨S196608, .i1⟩
  | 67 => ⟨S_, .i32⟩
  | 68 => ⟨S196608, .i32⟩
  | 69 => ⟨S196608, .i32⟩
  | 70 => ⟨S196608, .i32⟩
  | 71 => ⟨S196608x1, .i32⟩
  | 72 => ⟨S196608x21, .f32⟩
  | 73 => ⟨S21x196608, .f32⟩
  | 74 => ⟨S21x384x512, .f32⟩
  | 75 => ⟨S_, .f32⟩
  | 76 => ⟨S21x384x512, .f32⟩
  | 77 => ⟨S21x384x512, .f32⟩
  | 78 => ⟨S_, .f32⟩
  | 79 => ⟨S21x384x512, .f32⟩
  | 80 => ⟨S21x384x512, .f32⟩
  | 81 => ⟨S_, .f32⟩
  | 82 => ⟨S384x512, .f32⟩
  | 83 => ⟨S_, .f32⟩
  | 84 => ⟨S384x512, .f32⟩
  | 85 => ⟨S1x384x512, .f32⟩
  | 86 => ⟨S21x384x512, .f32⟩
  | 87 => ⟨S21x384x512, .i1⟩
  | 88 => ⟨S21x384x512, .f32⟩
  | 89 => ⟨S_, .f32⟩
  | 90 => ⟨S21x384x512, .f32⟩
  | 91 => ⟨S21x384x512, .f32⟩
  | 92 => ⟨S1x384x512, .f32⟩
  | 93 => ⟨S21x384x512, .f32⟩
  | 94 => ⟨S21x384x512, .f32⟩
  | 95 => ⟨S21x384x512, .f32⟩
  | 96 => ⟨S21x384x512, .f32⟩
  | 97 => ⟨S_, .f32⟩
  | 98 => ⟨S21x384x512, .f32⟩
  | 99 => ⟨S21x384x512, .f32⟩
  | 100 => ⟨S21x384x512, .f32⟩
  | 101 => ⟨S21x196608, .f32⟩
  | 102 => ⟨S196608x21, .f32⟩
  | 103 => ⟨S_, .f32⟩
  | 104 => ⟨S100x21, .f32⟩
  | 105 => ⟨S196608x1, .i32⟩
  | 106 => ⟨S100x21, .f32⟩
  | 107 => ⟨S_, .i32⟩
  | 108 => ⟨S196608, .i32⟩
  | 109 => ⟨S196608, .i1⟩
  | 110 => ⟨S_, .i32⟩
  | 111 => ⟨S196608, .i32⟩
  | 112 => ⟨S196608, .i32⟩
  | 113 => ⟨S196608, .i32⟩
  | 114 => ⟨S196608x1, .i32⟩
  | 115 => ⟨S196608x21, .f32⟩
  | 116 => ⟨S21x196608, .f32⟩
  | 117 => ⟨S21x384x512, .f32⟩
  | 118 => ⟨S_, .f32⟩
  | 119 => ⟨S21x384x512, .f32⟩
  | 120 => ⟨S21x384x512, .i1⟩
  | 121 => ⟨S21x384x512, .f32⟩
  | 122 => ⟨S21x384x512, .f32⟩
  | 123 => ⟨S_, .f32⟩
  | 124 => ⟨S21x384x512, .f32⟩
  | 125 => ⟨S21x384x512, .i1⟩
  | 126 => ⟨S21x384x512, .f32⟩
  | 127 => ⟨S21x384x512, .f32⟩
  | _ => ⟨S1x384x512x21, .f32⟩

abbrev hbmTy0_2 (i : Nat) : BufTy := match i % 128 with
  | 0 => ⟨S1x21, .f32⟩
  | 1 => ⟨S21, .f32⟩
  | 2 => ⟨S1, .f32⟩
  | 3 => ⟨S_, .f32⟩
  | 4 => ⟨S_, .f32⟩
  | 5 => ⟨S21x384x512, .f32⟩
  | 6 => ⟨S21x384x512, .f32⟩
  | 7 => ⟨S21x384x512, .f32⟩
  | 8 => ⟨S21x384x512, .f32⟩
  | 9 => ⟨S21x384x512, .f32⟩
  | 10 => ⟨S21x1x1, .f32⟩
  | 11 => ⟨S21x384x512, .f32⟩
  | 12 => ⟨S21x384x512, .f32⟩
  | 13 => ⟨S_, .f32⟩
  | 14 => ⟨S21x384x512, .f32⟩
  | 15 => ⟨S21x384x512, .f32⟩
  | 16 => ⟨S21x384x512, .f32⟩
  | 17 => ⟨S21x384x512, .f32⟩
  | 18 => ⟨S21x384x512, .f32⟩
  | 19 => ⟨S1x21, .f32⟩
  | 20 => ⟨S21, .f32⟩
  | 21 => ⟨S1, .f32⟩
  | 22 => ⟨S_, .f32⟩
  | 23 => ⟨S_, .f32⟩
  | 24 => ⟨S21x384x512, .f32⟩
  | 25 => ⟨S21x384x512, .f32⟩
  | 26 => ⟨S21x384x512, .f32⟩
  | 27 => ⟨S21x384x512, .f32⟩
  | 28 => ⟨S21x384x512, .f32⟩
  | 29 => ⟨S21x1x1, .f32⟩
  | 30 => ⟨S21x384x512, .f32⟩
  | 31 => ⟨S21x384x512, .f32⟩
  | 32 => ⟨S_, .f32⟩
  | 33 => ⟨S21x384x512, .f32⟩
  | 34 => ⟨S21x384x512, .f32⟩
  | 35 => ⟨S21x384x512, .f32⟩
  | 36 => ⟨S21x384x512, .f32⟩
  | 37 => ⟨S21x384x512, .f32⟩
  | 38 => ⟨S1x21, .f32⟩
  | 39 => ⟨S21, .f32⟩
  | 40 => ⟨S1, .f32⟩
  | 41 => ⟨S_, .f32⟩
  | 42 => ⟨S_, .f32⟩
  | 43 => ⟨S21x384x512, .f32⟩
  | 44 => ⟨S21x384x512, .f32⟩
  | 45 => ⟨S21x384x512, .f32⟩
  | 46 => ⟨S21x384x512, .f32⟩
  | 47 => ⟨S21x384x512, .f32⟩
  | 48 => ⟨S21x1x1, .f32⟩
  | 49 => ⟨S21x384x512, .f32⟩
  | 50 => ⟨S21x384x512, .f32⟩
  | 51 => ⟨S_, .f32⟩
  | 52 => ⟨S21x384x512, .f32⟩
  | 53 => ⟨S21x384x512, .f32⟩
  | 54 => ⟨S21x384x512, .f32⟩
  | 55 => ⟨S21x384x512, .f32⟩
  | 56 => ⟨S21x384x512, .f32⟩
  | 57 => ⟨S21x384x512, .f32⟩
  | 58 => ⟨S21x384x512, .f32⟩
  | 59 => ⟨S21x196608, .f32⟩
  | 60 => ⟨S21x196608, .f32⟩
  | 61 => ⟨S21x196608, .f32⟩
  | 62 => ⟨S21x196608, .f32⟩
  | 63 => ⟨S21x196608, .f32⟩
  | 64 => ⟨S21x384x512, .f32⟩
  | 65 => ⟨S21x384x512, .f32⟩
  | 66 => ⟨S21x384x512, .f32⟩
  | 67 => ⟨S1x21x384x512, .f32⟩
  | _ => ⟨S1x384x512x21, .f32⟩

abbrev hbmTy (i : Nat) : BufTy := match i / 128 with
  | 0 => hbmTy0_0 i
  | 1 => hbmTy0_1 i
  | 2 => hbmTy0_2 i
  | _ => ⟨S1x384x512x21, .f32⟩

abbrev bufTy : (tb : Table) → Fin (tcTables nBuf tb) → BufTy
  | .hbm, ⟨i, _⟩ => hbmTy i
  | _, _ => ⟨S1x384x512x21, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_12 : Ref sig .tc := ⟨.hbm, 79, rfl⟩
abbrev main_v57 : Ref sig .tc := ⟨.hbm, 80, rfl⟩
abbrev main_v58 : Ref sig .tc := ⟨.hbm, 81, rfl⟩
abbrev main_c_13 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_15 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_16 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_17 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_18 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_cst_19 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_cst_20 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_cst_21 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_cst_22 : Ref sig .tc := ⟨.hbm, 167, rfl⟩
abbrev main_v135 : Ref sig .tc := ⟨.hbm, 168, rfl⟩
abbrev main_cst_23 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_cst_24 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_cst_25 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_cst_26 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_c_27 : Ref sig .tc := ⟨.hbm, 192, rfl⟩
abbrev main_v155 : Ref sig .tc := ⟨.hbm, 193, rfl⟩
abbrev main_v156 : Ref sig .tc := ⟨.hbm, 194, rfl⟩
abbrev main_c_28 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_cst_29 : Ref sig .tc := ⟨.hbm, 203, rfl⟩
abbrev main_v164 : Ref sig .tc := ⟨.hbm, 204, rfl⟩
abbrev main_v165 : Ref sig .tc := ⟨.hbm, 205, rfl⟩
abbrev main_cst_30 : Ref sig .tc := ⟨.hbm, 206, rfl⟩
abbrev main_v166 : Ref sig .tc := ⟨.hbm, 207, rfl⟩
abbrev main_v167 : Ref sig .tc := ⟨.hbm, 208, rfl⟩
abbrev main_cst_31 : Ref sig .tc := ⟨.hbm, 209, rfl⟩
abbrev main_v168 : Ref sig .tc := ⟨.hbm, 210, rfl⟩
abbrev main_cst_32 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_cst_33 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_cst_34 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_cst_35 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_c_36 : Ref sig .tc := ⟨.hbm, 235, rfl⟩
abbrev main_v189 : Ref sig .tc := ⟨.hbm, 236, rfl⟩
abbrev main_v190 : Ref sig .tc := ⟨.hbm, 237, rfl⟩
abbrev main_c_37 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_cst_38 : Ref sig .tc := ⟨.hbm, 246, rfl⟩
abbrev main_v198 : Ref sig .tc := ⟨.hbm, 247, rfl⟩
abbrev main_v199 : Ref sig .tc := ⟨.hbm, 248, rfl⟩
abbrev main_v200 : Ref sig .tc := ⟨.hbm, 249, rfl⟩
abbrev main_v201 : Ref sig .tc := ⟨.hbm, 250, rfl⟩
abbrev main_cst_39 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_v208 : Ref sig .tc := ⟨.hbm, 258, rfl⟩
abbrev main_v209 : Ref sig .tc := ⟨.hbm, 259, rfl⟩
abbrev main_cst_40 : Ref sig .tc := ⟨.hbm, 260, rfl⟩
abbrev main_v210 : Ref sig .tc := ⟨.hbm, 261, rfl⟩
abbrev main_v211 : Ref sig .tc := ⟨.hbm, 262, rfl⟩
abbrev main_v212 : Ref sig .tc := ⟨.hbm, 263, rfl⟩
abbrev main_v213 : Ref sig .tc := ⟨.hbm, 264, rfl⟩
abbrev main_v214 : Ref sig .tc := ⟨.hbm, 265, rfl⟩
abbrev main_v215 : Ref sig .tc := ⟨.hbm, 266, rfl⟩
abbrev main_v216 : Ref sig .tc := ⟨.hbm, 267, rfl⟩
abbrev main_v217 : Ref sig .tc := ⟨.hbm, 268, rfl⟩
abbrev main_cst_41 : Ref sig .tc := ⟨.hbm, 269, rfl⟩
abbrev main_v218 : Ref sig .tc := ⟨.hbm, 270, rfl⟩
abbrev main_v219 : Ref sig .tc := ⟨.hbm, 271, rfl⟩
abbrev main_v220 : Ref sig .tc := ⟨.hbm, 272, rfl⟩
abbrev main_v221 : Ref sig .tc := ⟨.hbm, 273, rfl⟩
abbrev main_v222 : Ref sig .tc := ⟨.hbm, 274, rfl⟩
abbrev main_v223 : Ref sig .tc := ⟨.hbm, 275, rfl⟩
abbrev main_v224 : Ref sig .tc := ⟨.hbm, 276, rfl⟩
abbrev main_v225 : Ref sig .tc := ⟨.hbm, 277, rfl⟩
abbrev main_v226 : Ref sig .tc := ⟨.hbm, 278, rfl⟩
abbrev main_cst_42 : Ref sig .tc := ⟨.hbm, 279, rfl⟩
abbrev main_v227 : Ref sig .tc := ⟨.hbm, 280, rfl⟩
abbrev main_v228 : Ref sig .tc := ⟨.hbm, 281, rfl⟩
abbrev main_v229 : Ref sig .tc := ⟨.hbm, 282, rfl⟩
abbrev main_v230 : Ref sig .tc := ⟨.hbm, 283, rfl⟩
abbrev main_v231 : Ref sig .tc := ⟨.hbm, 284, rfl⟩
abbrev main_v232 : Ref sig .tc := ⟨.hbm, 285, rfl⟩
abbrev main_v233 : Ref sig .tc := ⟨.hbm, 286, rfl⟩
abbrev main_v234 : Ref sig .tc := ⟨.hbm, 287, rfl⟩
abbrev main_cst_43 : Ref sig .tc := ⟨.hbm, 288, rfl⟩
abbrev main_v235 : Ref sig .tc := ⟨.hbm, 289, rfl⟩
abbrev main_v236 : Ref sig .tc := ⟨.hbm, 290, rfl⟩
abbrev main_v237 : Ref sig .tc := ⟨.hbm, 291, rfl⟩
abbrev main_v238 : Ref sig .tc := ⟨.hbm, 292, rfl⟩
abbrev main_v239 : Ref sig .tc := ⟨.hbm, 293, rfl⟩
abbrev main_v240 : Ref sig .tc := ⟨.hbm, 294, rfl⟩
abbrev main_v241 : Ref sig .tc := ⟨.hbm, 295, rfl⟩
abbrev main_v242 : Ref sig .tc := ⟨.hbm, 296, rfl⟩
abbrev main_v243 : Ref sig .tc := ⟨.hbm, 297, rfl⟩
abbrev main_cst_44 : Ref sig .tc := ⟨.hbm, 298, rfl⟩
abbrev main_v244 : Ref sig .tc := ⟨.hbm, 299, rfl⟩
abbrev main_v245 : Ref sig .tc := ⟨.hbm, 300, rfl⟩
abbrev main_v246 : Ref sig .tc := ⟨.hbm, 301, rfl⟩
abbrev main_v247 : Ref sig .tc := ⟨.hbm, 302, rfl⟩
abbrev main_v248 : Ref sig .tc := ⟨.hbm, 303, rfl⟩
abbrev main_v249 : Ref sig .tc := ⟨.hbm, 304, rfl⟩
abbrev main_v250 : Ref sig .tc := ⟨.hbm, 305, rfl⟩
abbrev main_v251 : Ref sig .tc := ⟨.hbm, 306, rfl⟩
abbrev main_cst_45 : Ref sig .tc := ⟨.hbm, 307, rfl⟩
abbrev main_v252 : Ref sig .tc := ⟨.hbm, 308, rfl⟩
abbrev main_v253 : Ref sig .tc := ⟨.hbm, 309, rfl⟩
abbrev main_v254 : Ref sig .tc := ⟨.hbm, 310, rfl⟩
abbrev main_v255 : Ref sig .tc := ⟨.hbm, 311, rfl⟩
abbrev main_v256 : Ref sig .tc := ⟨.hbm, 312, rfl⟩
abbrev main_v257 : Ref sig .tc := ⟨.hbm, 313, rfl⟩
abbrev main_v258 : Ref sig .tc := ⟨.hbm, 314, rfl⟩
abbrev main_v259 : Ref sig .tc := ⟨.hbm, 315, rfl⟩
abbrev main_v260 : Ref sig .tc := ⟨.hbm, 316, rfl⟩
abbrev main_v261 : Ref sig .tc := ⟨.hbm, 317, rfl⟩
abbrev main_v262 : Ref sig .tc := ⟨.hbm, 318, rfl⟩
abbrev main_v263 : Ref sig .tc := ⟨.hbm, 319, rfl⟩
abbrev main_v264 : Ref sig .tc := ⟨.hbm, 320, rfl⟩
abbrev main_v265 : Ref sig .tc := ⟨.hbm, 321, rfl⟩
abbrev main_v266 : Ref sig .tc := ⟨.hbm, 322, rfl⟩
abbrev main_v267 : Ref sig .tc := ⟨.hbm, 323, rfl⟩

abbrev nD : Nat := 1
abbrev τ : Topo := Topo.v7x

variable {F : FTy → Type} [FloatOps F]
-- ==== Proof.Stores.lean ====
/- One store over a whole buffer, read back: the stored value, whatever the buffer held. Both the kernels' output
   blocks and the two accumulators are written this way. -/
module

public import Idealize.ShloMosaic.Lib.Pipeline.Value

@[expose] public section

noncomputable section

namespace Cert.Stores

open Idealize.ShloMosaic

variable {Val : EltTy → Type} {S : Shape} {e : EltTy}

/-- The offset of every whole-buffer store of a matrix. -/
theorem zero2 : (![0, 0] : Fin 2 → Nat) = fun _ => 0 := by funext a; fin_cases a <;> rfl
/-- The offset of every whole-buffer load of a rank-three block. -/
theorem zero3 : (![0, 0, 0] : Fin 3 → Nat) = fun _ => 0 := by funext a; fin_cases a <;> rfl

/-- After one store over the whole buffer, the buffer reads as the stored value. -/
theorem read_store [∀ e, Nonempty (Val e)] {sig : RefSig} {κ : Kind} {sp : Space} (v : View sig κ sp S e)
    (f : v.ty.Contents Val) {off : Fin S.rank → Nat} (h : off = fun _ => 0) (inb : ∀ a, off a + S.size a ≤ S.size a) (w : S.Idx → Val e) :
    v.read Val (v.writes Val f [(⟨Rect.unit off S.size inb, w⟩ : View.Piece Val S e)]) = w := by
  rw [View.read_writes_eq_canon v f _ fun y => ⟨_, List.mem_singleton_self _, View.mem_set_unit_zero h inb y⟩]
  exact View.canon_unit_zero h inb w

/-- A load of the whole buffer reads the buffer's contents. -/
theorem readAt_whole {sig : RefSig} {κ : Kind} {sp : Space} (v : View sig κ sp S e)
    (f : v.ty.Contents Val) {off : Fin S.rank → Nat} (h : off = fun _ => 0) (inb : ∀ a, off a + S.size a ≤ S.size a) :
    v.readAt Val (Rect.unit off S.size inb) f = v.read Val f := by
  rw [View.readAt_eq_ld]; exact View.ld_unit_zero h inb _

/-- A load of a whole matrix. -/
theorem readAt2 {a b : Nat} {sig : RefSig} {κ : Kind} {sp : Space} (v : View sig κ sp ⟨2, ![a, b]⟩ e) (f : v.ty.Contents Val)
    (inb : ∀ d, (![0, 0] : Fin 2 → Nat) d + (![a, b] : Fin 2 → Nat) d ≤ (⟨2, ![a, b]⟩ : Shape).size d) :
    v.readAt Val (Rect.unit (s := ⟨2, ![a, b]⟩) ![0, 0] ![a, b] inb).toLoadRect f = v.read Val f := readAt_whole v f zero2 inb
/-- A load of a whole rank-three block. -/
theorem readAt3 {a b d : Nat} {sig : RefSig} {κ : Kind} {sp : Space} (v : View sig κ sp ⟨3, ![a, b, d]⟩ e) (f : v.ty.Contents Val)
    (inb : ∀ k, (![0, 0, 0] : Fin 3 → Nat) k + (![a, b, d] : Fin 3 → Nat) k ≤ (⟨3, ![a, b, d]⟩ : Shape).size k) :
    v.readAt Val (Rect.unit (s := ⟨3, ![a, b, d]⟩) ![0, 0, 0] ![a, b, d] inb).toLoadRect f = v.read Val f := readAt_whole v f zero3 inb

end Cert.Stores

end
-- ==== Proof.BodyA.lean ====
/- What one grid point of the first kernel leaves in its two accumulators: at the first point the block's own
   sums, at every later point the sums added to what the accumulators held. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Stores
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Stores

variable {F : FTy → Type} [FloatOps F]

local notation "𝕄" => MT nD τ sig Unit (Elt F) ℕ (UR sig nD τ) ℕ

/-- The first point's body, on whole staging buffers: the accumulators end at the block's sums. -/
theorem bodyA_first (c : Dev nD) (i : grid0.Coords) (arg1 : Memref sig .tc .vmem S21x2048 .f32) (harg1 : arg1.IsWhole) (arg2 : Memref sig .tc .vmem S1x1x2048 .i32) (harg2 : arg2.IsWhole) (arg3 : Memref sig .tc .vmem S21x128 .f32) (harg3 : arg3.IsWhole) (arg4 : Memref sig .tc .vmem S21x128 .f32) (harg4 : arg4.IsWhole) (hc0 : k0_cond1 i = 1#1) (hc1 : ¬k0_cond2 i = 1#1)
    (x0 : Vec F S21x2048 .f32) (x1 : Vec F S1x1x2048 .i32) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (k0_pay5 x0 x1) ∗ owns (c : Thread nD τ) arg4 fullShare (k0_pay6 x0 x1)) -∗ K ⟨⟩))
      ⊢ wp frame (wpE (defs₀ (F := F)) Variants.none c none) E (cc0__kernel_a i arg1 harg1 arg2 harg2 arg3 harg3 arg4 harg4) K := by
  simp only [cc0__kernel_a_eq_skeleton]; unfold cc0__kernel_a_skel
  simp only [k0_part1_eq_skeleton]
  unfold owns
  iintro ⟨⟨%f0, %hf0, H0⟩, ⟨%f1, %hf1, H1⟩, ⟨%d2, %f2, -, H2⟩, ⟨%d3, %f3, -, H3⟩, Hk⟩
  sl_exec (disch := first | sl_exact hc0 | sl_exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    rw [read_store _ _ zero2]; sl_unfold_words; simp only [readAt2, readAt3, hf0, hf1]
  iexists _; isplitr
  swap; · iexact H3
  ipureintro
  rw [read_store _ _ zero2]; sl_unfold_words; simp only [readAt2, readAt3, hf0, hf1]

/-- A later point's body: the accumulators end at what they held plus the block's sums. -/
theorem bodyA_next (c : Dev nD) (i : grid0.Coords) (arg1 : Memref sig .tc .vmem S21x2048 .f32) (harg1 : arg1.IsWhole) (arg2 : Memref sig .tc .vmem S1x1x2048 .i32) (harg2 : arg2.IsWhole) (arg3 : Memref sig .tc .vmem S21x128 .f32) (harg3 : arg3.IsWhole) (arg4 : Memref sig .tc .vmem S21x128 .f32) (harg4 : arg4.IsWhole) (hc0 : ¬k0_cond1 i = 1#1) (hc1 : k0_cond2 i = 1#1)
    (x0 : Vec F S21x2048 .f32) (x1 : Vec F S1x1x2048 .i32) (y2 y3 : Vec F S21x128 .f32) (E : Set ℕ) (K : PUnit → sProp 𝕄) :
    iprop(owns (c : Thread nD τ) arg1 fullShare x0 ∗ owns (c : Thread nD τ) arg2 fullShare x1 ∗ owns (c : Thread nD τ) arg3 fullShare y2 ∗ owns (c : Thread nD τ) arg4 fullShare y3
        ∗ (iprop(owns (c : Thread nD τ) arg1 fullShare x0 ∗ owns (c : Thread nD τ) arg2 fullShare x1 ∗ owns (c : Thread nD τ) arg3 fullShare (k0_pay1 (k0_pay5 x0 x1) y2) ∗ owns (c : Thread nD τ) arg4 fullShare (k0_pay2 (k0_pay6 x0 x1) y3)) -∗ K ⟨⟩))
      ⊢ wp frame (wpE (defs₀ (F := F)) Variants.none c none) E (cc0__kernel_a i arg1 harg1 arg2 harg2 arg3 harg3 arg4 harg4) K := by
  simp only [cc0__kernel_a_eq_skeleton]; unfold cc0__kernel_a_skel
  simp only [k0_part1_eq_skeleton]
  unfold owns
  iintro ⟨⟨%f0, %hf0, H0⟩, ⟨%f1, %hf1, H1⟩, ⟨%f2, %hf2, H2⟩, ⟨%f3, %hf3, H3⟩, Hk⟩
  sl_exec (disch := first | sl_exact hc0 | sl_exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    rw [read_store _ _ zero2]; sl_unfold_words; simp only [readAt2, readAt3, hf0, hf1, hf2]
  iexists _; isplitr
  swap; · iexact H3
  ipureintro
  rw [read_store _ _ zero2]; sl_unfold_words; simp only [readAt2, readAt3, hf0, hf1, hf3]

end Cert.KernelIdeal.Hand

end
-- ==== Proof.RegionA.lean ====
/- The first kernel over its 96 points: what its arrays and buffers hold, at any entry contents. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.BodyA
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (W : Dev nD → Valuation τ sig (Elt F))

/-- The block that window `w` reads at point `t`, of the arrays as the region finds them. -/
def iblkA (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

abbrev ms0_0 (t : Fin cfg0.N) : Memref sig .tc .vmem S21x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x2048 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S21x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S21x128 .f32 := win0_3.stage (cfg0.slots t 3)
abbrev hs0_3 (t : Fin cfg0.N) : (ms0_3 t).IsWhole := hstage0_3 ((cfg0.slots t 3).cast nbuf0_3)

/-- The first condition holds at the first point alone, -/
theorem hcond0_0 (t : Fin cfg0.N) : k0_cond1 (grid0.coords t) = 1#1 ↔ t.val = 0 := by
  have ht : t.val < 96 := Nat.lt_of_lt_of_eq t.isLt N_0
  have e0 : (grid0.coords t 0).val = t.val / 1 % 96 := Pipeline.Grid.coords_val t 0 (by decide) rfl
  simp only [k0_cond1, e0]; word_cmp

/-- and the second at every later point. -/
theorem hcond0_1 (t : Fin cfg0.N) : k0_cond2 (grid0.coords t) = 1#1 ↔ 1 ≤ t.val := by
  have ht : t.val < 96 := Nat.lt_of_lt_of_eq t.isLt N_0
  have e0 : (grid0.coords t 0).val = t.val / 1 % 96 := Pipeline.Grid.coords_val t 0 (by decide) rfl
  simp only [k0_cond2, e0]; word_cmp

/-- Whether an accumulator's buffer holds nothing yet at position `n`: only before the first point, and after the
    last, which writes it back. -/
def freshTab0 : ℕ → Bool
  | 0 => true
  | n + 1 => decide (n = 95)

theorem fresh0_2 (t : Fin cfg0.N) (h : 1 ≤ t.val) : cfg0.fresh 2 t.val = false := by
  have hs : ∀ t : Fin cfg0.N, freshTab0 (t.val + 1) = ((cfg0.win 2).flush t || (cfg0.idle 2 (cfg0.grid.coords t) && freshTab0 t.val)) := by
    decide +kernel
  have ht : t.val < 96 := Nat.lt_of_lt_of_eq t.isLt N_0
  rw [Pipeline.Cfg.fresh_tab cfg0 2 freshTab0 rfl hs t.val (Nat.le_of_lt t.isLt)]
  obtain ⟨_ | n, hn⟩ := t
  · exact absurd h (Nat.not_succ_le_zero 0)
  · exact decide_eq_false (by dsimp only at ht; omega)

theorem live0_2 : ∀ t : Fin cfg0.N, cfg0.idle 2 (grid0.coords t) = false := by decide +kernel

theorem fresh0_3 (t : Fin cfg0.N) (h : 1 ≤ t.val) : cfg0.fresh 3 t.val = false := by
  have hs : ∀ t : Fin cfg0.N, freshTab0 (t.val + 1) = ((cfg0.win 3).flush t || (cfg0.idle 3 (cfg0.grid.coords t) && freshTab0 t.val)) := by
    decide +kernel
  have ht : t.val < 96 := Nat.lt_of_lt_of_eq t.isLt N_0
  rw [Pipeline.Cfg.fresh_tab cfg0 3 freshTab0 rfl hs t.val (Nat.le_of_lt t.isLt)]
  obtain ⟨_ | n, hn⟩ := t
  · exact absurd h (Nat.not_succ_le_zero 0)
  · exact decide_eq_false (by dsimp only at ht; omega)

theorem live0_3 : ∀ t : Fin cfg0.N, cfg0.idle 3 (grid0.coords t) = false := by decide +kernel

/-- The two accumulators after point `n`. -/
def accA (c : Dev nD) : (n : ℕ) → n < cfg0.N → Vec F S21x128 .f32 × Vec F S21x128 .f32
  | 0, h => (k0_pay5 (iblkA W c 0 ⟨0, h⟩) (iblkA W c 1 ⟨0, h⟩), k0_pay6 (iblkA W c 0 ⟨0, h⟩) (iblkA W c 1 ⟨0, h⟩))
  | n + 1, h => (k0_pay1 (k0_pay5 (iblkA W c 0 ⟨n + 1, h⟩) (iblkA W c 1 ⟨n + 1, h⟩)) (accA c n (Nat.lt_of_succ_lt h)).1,
      k0_pay2 (k0_pay6 (iblkA W c 0 ⟨n + 1, h⟩) (iblkA W c 1 ⟨n + 1, h⟩)) (accA c n (Nat.lt_of_succ_lt h)).2)

/-- What the region's arrays hold when it is entered, and what each point leaves in the buffers. -/
def datA (c : Dev nD) : Dat τ (Elt F) Unit ℕ (UR sig nD τ) ℕ cfg0 c where
  A w := W c (Proc.devRef .tc (Pipeline.arrRef spec0 w))
  after w t := match w with
    | ⟨0, _⟩ => iblkA W c 0 t
    | ⟨1, _⟩ => iblkA W c 1 t
    | ⟨2, _⟩ => (accA W c t.val t.isLt).1
    | ⟨3, _⟩ => (accA W c t.val t.isLt).2
  Φ _ := Pipeline.ΦA spec0 c
  q _ := fullShare
  owed _ := 0

theorem A_eqA (c : Dev nD) (w : Fin cfg0.W) : (datA W c).A w = W c (Proc.devRef .tc (Pipeline.arrRef spec0 w)) := by
  dsimp only [datA]

theorem after0_0 (c : Dev nD) (t : Fin cfg0.N) : (datA W c).after 0 t = iblkA W c 0 t := by dsimp only [datA]
theorem after0_1 (c : Dev nD) (t : Fin cfg0.N) : (datA W c).after 1 t = iblkA W c 1 t := by dsimp only [datA]
theorem after0_2 (c : Dev nD) (t : Fin cfg0.N) : (datA W c).after 2 t = (accA W c t.val t.isLt).1 := by dsimp only [datA]
theorem after0_3 (c : Dev nD) (t : Fin cfg0.N) : (datA W c).after 3 t = (accA W c t.val t.isLt).2 := by dsimp only [datA]
theorem before0_0 (c : Dev nD) (t : Fin cfg0.N) (d) : (datA W c).before 0 t d = iblkA W c 0 t :=
  ((datA W c).before_in_eq_fetched 0 rfl (fun _ => rfl) (fun _ _ _ => rfl) (fun t => by rw [after0_0]; unfold Dat.blockOf iblkA; rw [A_eqA]; try rfl) t d).trans
    (by unfold Dat.fetched Dat.blockOf iblkA; rw [A_eqA]; try rfl)
theorem before0_1 (c : Dev nD) (t : Fin cfg0.N) (d) : (datA W c).before 1 t d = iblkA W c 1 t :=
  ((datA W c).before_in_eq_fetched 1 rfl (fun _ => rfl) (fun _ _ _ => rfl) (fun t => by rw [after0_1]; unfold Dat.blockOf iblkA; rw [A_eqA]; try rfl) t d).trans
    (by unfold Dat.fetched Dat.blockOf iblkA; rw [A_eqA]; try rfl)

/-- At a later point the accumulator holds what the point before left. -/
theorem before0_2 (c : Dev nD) (t : Fin cfg0.N) (h : 1 ≤ t.val) (d) :
    (datA W c).before 2 t d = (accA W c (t.val - 1) (Nat.lt_of_le_of_lt (Nat.sub_le _ _) t.isLt)).1 := by
  rw [Dat.before_out_traj _ 2 rfl (fun _ _ => rfl)
      (fun t _ hi _ => by rw [live0_2 t] at hi; exact absurd hi Bool.false_ne_true) t.val t rfl d,
    if_neg (by rw [fresh0_2 t h]; exact Bool.false_ne_true)]
  dsimp only [datA]

/-- At a later point the accumulator holds what the point before left. -/
theorem before0_3 (c : Dev nD) (t : Fin cfg0.N) (h : 1 ≤ t.val) (d) :
    (datA W c).before 3 t d = (accA W c (t.val - 1) (Nat.lt_of_le_of_lt (Nat.sub_le _ _) t.isLt)).2 := by
  rw [Dat.before_out_traj _ 3 rfl (fun _ _ => rfl)
      (fun t _ hi _ => by rw [live0_3 t] at hi; exact absurd hi Bool.false_ne_true) t.val t rfl d,
    if_neg (by rw [fresh0_3 t h]; exact Bool.false_ne_true)]
  dsimp only [datA]

/-- What the body is called with at point `t`, window by window, -/
def bodyPreA (c : Dev nD) (t : Fin cfg0.N) : sProp 𝕄 :=
  iprop((datA W c).Φ t.castSucc ∗ (datA W c).owesAt () t.castSucc
    ∗ (∃ d, owns (c : Thread nD τ) (ms0_0 t) fullShare ((datA W c).before 0 t d))
    ∗ (∃ d, owns (c : Thread nD τ) (ms0_1 t) fullShare ((datA W c).before 1 t d))
    ∗ (∃ d, owns (c : Thread nD τ) (ms0_2 t) fullShare ((datA W c).before 2 t d))
    ∗ (∃ d, owns (c : Thread nD τ) (ms0_3 t) fullShare ((datA W c).before 3 t d)))

/-- and what it returns. -/
def bodyPostA (c : Dev nD) (t : Fin cfg0.N) : sProp 𝕄 :=
  iprop((datA W c).Φ t.succ ∗ (datA W c).owesAt () t.succ
    ∗ (datA W c).leavesExact 0 t
    ∗ (datA W c).leavesExact 1 t
    ∗ (datA W c).leavesExact 2 t
    ∗ (datA W c).leavesExact 3 t)

theorem leaves0_0 (c : Dev nD) (t : Fin cfg0.N) : (datA W c).leavesExact 0 t = owns (c : Thread nD τ) (ms0_0 t) fullShare ((datA W c).after 0 t) := by
  unfold Dat.leavesExact; rw [show cfg0.idle 0 (grid0.coords t) = false from rfl]
theorem leaves0_1 (c : Dev nD) (t : Fin cfg0.N) : (datA W c).leavesExact 1 t = owns (c : Thread nD τ) (ms0_1 t) fullShare ((datA W c).after 1 t) := by
  unfold Dat.leavesExact; rw [show cfg0.idle 1 (grid0.coords t) = false from rfl]
theorem leaves0_2 (c : Dev nD) (t : Fin cfg0.N) : (datA W c).leavesExact 2 t = owns (c : Thread nD τ) (ms0_2 t) fullShare ((datA W c).after 2 t) := by
  unfold Dat.leavesExact; rw [live0_2 t]
theorem leaves0_3 (c : Dev nD) (t : Fin cfg0.N) : (datA W c).leavesExact 3 t = owns (c : Thread nD τ) (ms0_3 t) fullShare ((datA W c).after 3 t) := by
  unfold Dat.leavesExact; rw [live0_3 t]

/-- The accumulators after the first point. -/
theorem accA_first (c : Dev nD) (t : Fin cfg0.N) (h : t.val = 0) :
    accA W c t.val t.isLt = (k0_pay5 (iblkA W c 0 t) (iblkA W c 1 t), k0_pay6 (iblkA W c 0 t) (iblkA W c 1 t)) := by
  obtain ⟨_ | n, hn⟩ := t
  · rfl
  · exact absurd h (Nat.succ_ne_zero n)

/-- The accumulators after a later point, over what the point before left. -/
theorem accA_next (c : Dev nD) (t : Fin cfg0.N) (h : 1 ≤ t.val) :
    accA W c t.val t.isLt = (k0_pay1 (k0_pay5 (iblkA W c 0 t) (iblkA W c 1 t)) (accA W c (t.val - 1) (Nat.lt_of_le_of_lt (Nat.sub_le _ _) t.isLt)).1,
      k0_pay2 (k0_pay6 (iblkA W c 0 t) (iblkA W c 1 t)) (accA W c (t.val - 1) (Nat.lt_of_le_of_lt (Nat.sub_le _ _) t.isLt)).2) := by
  obtain ⟨_ | n, hn⟩ := t
  · exact absurd h (Nat.not_succ_le_zero 0)
  · rfl

set_option maxHeartbeats 800000 in
/-- The body at any point: the inputs' buffers hold their blocks, and the outputs end at what the proof data say. -/
theorem soundA (c : Dev nD) (t : Fin cfg0.N) :
    bodyPreA W c t ⊢ wp frame (wpE (defs₀ (F := F)) Variants.none c none) Set.univ (bodyAt0 t) (fun _ => bodyPostA W c t) := by
  unfold bodyPreA bodyPostA bodyAt0
  simp only [before0_0, before0_1]
  rw [show (datA W c).Φ t.succ = (datA W c).Φ t.castSucc from rfl,
    show (datA W c).owesAt () t.succ = (datA W c).owesAt () t.castSucc from rfl]
  rw [leaves0_0, leaves0_1, leaves0_2, leaves0_3]
  rw [after0_0, after0_1, after0_2, after0_3]
  by_cases h0 : t.val = 0
  · have h1 : ¬1 ≤ t.val := by omega
    rw [accA_first W c t h0]
    iintro ⟨HΦ, Ho, ⟨%d0, H0⟩, ⟨%d1, H1⟩, ⟨%d2, H2⟩, ⟨%d3, H3⟩⟩
    iapply (bodyA_first c (grid0.coords t) _ _ _ _ _ _ _ _ ((hcond0_0 _).mpr h0) (fun h => h1 ((hcond0_1 _).mp h)) _ _  Set.univ _)
    isplitl [H0]; · iexact H0
    isplitl [H1]; · iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · have h1 : 1 ≤ t.val := by omega
    rw [accA_next W c t h1]
    simp only [before0_2 W c t h1, before0_3 W c t h1]
    iintro ⟨HΦ, Ho, ⟨%d0, H0⟩, ⟨%d1, H1⟩, ⟨%d2, H2⟩, ⟨%d3, H3⟩⟩
    iapply (bodyA_next c (grid0.coords t) _ _ _ _ _ _ _ _ (fun h => h0 ((hcond0_0 _).mp h)) ((hcond0_1 _).mpr h1) _ _ _ _ Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The body obligation, at every point. -/
theorem obligationA (c : Dev nD) : BodyObligation (datA (F := F) W c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (soundA W c t) rfl .rfl fun _ => .rfl

end Cert.KernelIdeal.Hand

end
-- ==== Proof.BlockValues.lean ====
/- The blocks that the second and third kernels compute from the blocks they read, named once for all points. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Stores
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Stores

variable {F : FTy → Type} [FloatOps F]

local notation "𝕄" => MT nD τ sig Unit (Elt F) ℕ (UR sig nD τ) ℕ

/-- The unnormalised log-probabilities after one update, of one block: the unaries less the message `upd`. -/
def newQ (u : Vec F S21x2048 .f32) (seg : Vec F S1x1x2048 .i32) (bsp bio : Vec F S21x128 .f32) (lw : Vec F S21x3 .f32)
    (hw : Vec F S1x3 .f32) (ws wb comp : Vec F S21x21 .f32) : FVec F S21x2048 .f32 :=
  k1_pay22 (k1_pay5 u) (k1_pay6 u) ws wb comp (k1_pay15 (k1_pay6 u) (k1_pay11 seg bio) (k1_pay13 u)) (k1_pay16 (k1_pay6 u) (k1_pay12 seg bsp))
    (k1_pay17 (k1_pay8 lw)) (k1_pay18 (k1_pay9 hw)) (k1_pay19 (k1_pay9 hw)) (k1_pay20 (k1_pay6 u) (k1_pay8 lw) (k1_pay9 hw) (k1_pay10 seg bsp))
    (k1_pay21 (k1_pay6 u) (k1_pay8 lw) (k1_pay11 seg bio) (k1_pay13 u))

/-- One quantity of the updated block that the second kernel's sums are made of (`k1_pay25`). -/
def mid25 (u : Vec F S21x2048 .f32) (seg : Vec F S1x1x2048 .i32) (bsp bio : Vec F S21x128 .f32) (lw : Vec F S21x3 .f32)
    (hw : Vec F S1x3 .f32) (ws wb comp : Vec F S21x21 .f32) : FVec F S21x2048 .f32 :=
  k1_pay25 (k1_pay5 u) (k1_pay6 u) ws wb comp (k1_pay15 (k1_pay6 u) (k1_pay11 seg bio) (k1_pay13 u)) (k1_pay16 (k1_pay6 u) (k1_pay12 seg bsp))
    (k1_pay17 (k1_pay8 lw)) (k1_pay18 (k1_pay9 hw)) (k1_pay19 (k1_pay9 hw)) (k1_pay20 (k1_pay6 u) (k1_pay8 lw) (k1_pay9 hw) (k1_pay10 seg bsp))
    (k1_pay21 (k1_pay6 u) (k1_pay8 lw) (k1_pay11 seg bio) (k1_pay13 u))

/-- One quantity of the updated block that the second kernel's sums are made of (`k1_pay23`). -/
def mid23 (u : Vec F S21x2048 .f32) (seg : Vec F S1x1x2048 .i32) (bsp bio : Vec F S21x128 .f32) (lw : Vec F S21x3 .f32)
    (hw : Vec F S1x3 .f32) (ws wb comp : Vec F S21x21 .f32) : FVec F S21x2048 .f32 :=
  k1_pay23 (k1_pay5 u) (k1_pay6 u) ws wb comp (k1_pay15 (k1_pay6 u) (k1_pay11 seg bio) (k1_pay13 u)) (k1_pay16 (k1_pay6 u) (k1_pay12 seg bsp))
    (k1_pay17 (k1_pay8 lw)) (k1_pay18 (k1_pay9 hw)) (k1_pay19 (k1_pay9 hw)) (k1_pay20 (k1_pay6 u) (k1_pay8 lw) (k1_pay9 hw) (k1_pay10 seg bsp))
    (k1_pay21 (k1_pay6 u) (k1_pay8 lw) (k1_pay11 seg bio) (k1_pay13 u))

/-- One quantity of the updated block that the second kernel's sums are made of (`k1_pay24`). -/
def mid24 (u : Vec F S21x2048 .f32) (seg : Vec F S1x1x2048 .i32) (bsp bio : Vec F S21x128 .f32) (lw : Vec F S21x3 .f32)
    (hw : Vec F S1x3 .f32) (ws wb comp : Vec F S21x21 .f32) : FVec F S21x2048 .f32 :=
  k1_pay24 (k1_pay5 u) (k1_pay6 u) ws wb comp (k1_pay15 (k1_pay6 u) (k1_pay11 seg bio) (k1_pay13 u)) (k1_pay16 (k1_pay6 u) (k1_pay12 seg bsp))
    (k1_pay17 (k1_pay8 lw)) (k1_pay18 (k1_pay9 hw)) (k1_pay19 (k1_pay9 hw)) (k1_pay20 (k1_pay6 u) (k1_pay8 lw) (k1_pay9 hw) (k1_pay10 seg bsp))
    (k1_pay21 (k1_pay6 u) (k1_pay8 lw) (k1_pay11 seg bio) (k1_pay13 u))

/-- One quantity of the updated block that the second kernel's sums are made of (`k1_pay26`). -/
def mid26 (u : Vec F S21x2048 .f32) (seg : Vec F S1x1x2048 .i32) (bsp bio : Vec F S21x128 .f32) (lw : Vec F S21x3 .f32)
    (hw : Vec F S1x3 .f32) (ws wb comp : Vec F S21x21 .f32) : FVec F S21x2048 .f32 :=
  k1_pay26 (k1_pay5 u) (k1_pay6 u) ws wb comp (k1_pay15 (k1_pay6 u) (k1_pay11 seg bio) (k1_pay13 u)) (k1_pay16 (k1_pay6 u) (k1_pay12 seg bsp))
    (k1_pay17 (k1_pay8 lw)) (k1_pay18 (k1_pay9 hw)) (k1_pay19 (k1_pay9 hw)) (k1_pay20 (k1_pay6 u) (k1_pay8 lw) (k1_pay9 hw) (k1_pay10 seg bsp))
    (k1_pay21 (k1_pay6 u) (k1_pay8 lw) (k1_pay11 seg bio) (k1_pay13 u))

/-- The block's contribution to the first per-superpixel sum. -/
def spSum (u : Vec F S21x2048 .f32) (seg : Vec F S1x1x2048 .i32) (bsp bio : Vec F S21x128 .f32) (lw : Vec F S21x3 .f32)
    (hw : Vec F S1x3 .f32) (ws wb comp : Vec F S21x21 .f32) : FVec F S21x128 .f32 :=
  k1_pay1 (k1_pay7 seg) (mid24 u seg bsp bio lw hw ws wb comp)

/-- The block's contribution to the second per-superpixel sum. -/
def ioSum (u : Vec F S21x2048 .f32) (seg : Vec F S1x1x2048 .i32) (bsp bio : Vec F S21x128 .f32) (lw : Vec F S21x3 .f32)
    (hw : Vec F S1x3 .f32) (ws wb comp : Vec F S21x21 .f32) : FVec F S21x128 .f32 :=
  k1_pay2 (k1_pay7 seg) (mid23 u seg bsp bio lw hw ws wb comp) (mid25 u seg bsp bio lw hw ws wb comp)
    (mid26 u seg bsp bio lw hw ws wb comp)

/-- An accumulator's contents after one more block. -/
def spNext (u : Vec F S21x2048 .f32) (seg : Vec F S1x1x2048 .i32) (bsp bio : Vec F S21x128 .f32) (lw : Vec F S21x3 .f32)
    (hw : Vec F S1x3 .f32) (ws wb comp : Vec F S21x21 .f32)
    (y : Vec F S21x128 .f32) : FVec F S21x128 .f32 :=
  k1_pay3 (k1_pay7 seg) (mid24 u seg bsp bio lw hw ws wb comp) y

/-- The other accumulator's contents after one more block. -/
def ioNext (u : Vec F S21x2048 .f32) (seg : Vec F S1x1x2048 .i32) (bsp bio : Vec F S21x128 .f32) (lw : Vec F S21x3 .f32)
    (hw : Vec F S1x3 .f32) (ws wb comp : Vec F S21x21 .f32)
    (y : Vec F S21x128 .f32) : FVec F S21x128 .f32 :=
  k1_pay4 (k1_pay7 seg) (mid23 u seg bsp bio lw hw ws wb comp) (mid25 u seg bsp bio lw hw ws wb comp)
    (mid26 u seg bsp bio lw hw ws wb comp) y

/-- The third kernel's block: the second update, from the unaries and the first update's block `q`. -/
def outQ (u q : Vec F S21x2048 .f32) (seg : Vec F S1x1x2048 .i32) (bsp bio : Vec F S21x128 .f32) (lw : Vec F S21x3 .f32)
    (hw : Vec F S1x3 .f32) (ws wb comp : Vec F S21x21 .f32) : FVec F S21x2048 .f32 :=
  k2_pay1 (k2_pay2 q) ws wb comp (k2_pay11 (k2_pay2 q) (k2_pay7 seg bio) (k2_pay9 q)) (k2_pay12 (k2_pay2 q) (k2_pay8 seg bsp))
    (k2_pay13 (k2_pay4 lw)) (k2_pay14 (k2_pay5 hw)) (k2_pay15 (k2_pay5 hw)) (k2_pay16 (k2_pay2 q) (k2_pay4 lw) (k2_pay5 hw) (k2_pay6 seg bsp))
    (k2_pay17 (k2_pay2 q) (k2_pay4 lw) (k2_pay7 seg bio) (k2_pay9 q)) u

end Cert.KernelIdeal.Hand

end
-- ==== Proof.BodyB.lean ====
/- What one grid point of the second kernel leaves: the updated block, and the two accumulators. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Stores
public import proofs.«01_k».proof.Proof.BlockValues
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Stores

variable {F : FTy → Type} [FloatOps F]

local notation "𝕄" => MT nD τ sig Unit (Elt F) ℕ (UR sig nD τ) ℕ

/-- The first point's body: the updated block, and the accumulators at the block's sums. -/
theorem bodyB_first (c : Dev nD) (i : grid1.Coords) (arg1 : Memref sig .tc .vmem S21x2048 .f32) (harg1 : arg1.IsWhole) (arg2 : Memref sig .tc .vmem S1x1x2048 .i32) (harg2 : arg2.IsWhole) (arg3 : Memref sig .tc .vmem S21x128 .f32) (harg3 : arg3.IsWhole) (arg4 : Memref sig .tc .vmem S21x128 .f32) (harg4 : arg4.IsWhole) (arg5 : Memref sig .tc .vmem S21x3 .f32) (harg5 : arg5.IsWhole) (arg6 : Memref sig .tc .vmem S1x3 .f32) (harg6 : arg6.IsWhole) (arg7 : Memref sig .tc .vmem S21x21 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x2048 .f32) (harg10 : arg10.IsWhole) (arg11 : Memref sig .tc .vmem S21x128 .f32) (harg11 : arg11.IsWhole) (arg12 : Memref sig .tc .vmem S21x128 .f32) (harg12 : arg12.IsWhole) (hc0 : k1_cond1 i = 1#1) (hc1 : ¬k1_cond2 i = 1#1)
    (u : Vec F S21x2048 .f32) (seg : Vec F S1x1x2048 .i32) (bsp : Vec F S21x128 .f32) (bio : Vec F S21x128 .f32) (lw : Vec F S21x3 .f32) (hw : Vec F S1x3 .f32) (ws : Vec F S21x21 .f32) (wb : Vec F S21x21 .f32) (comp : Vec F S21x21 .f32)
     (E : Set ℕ) (K : PUnit → sProp 𝕄) :
    iprop(owns (c : Thread nD τ) arg1 fullShare u ∗ owns (c : Thread nD τ) arg2 fullShare seg ∗ owns (c : Thread nD τ) arg3 fullShare bsp ∗ owns (c : Thread nD τ) arg4 fullShare bio ∗ owns (c : Thread nD τ) arg5 fullShare lw ∗ owns (c : Thread nD τ) arg6 fullShare hw ∗ owns (c : Thread nD τ) arg7 fullShare ws ∗ owns (c : Thread nD τ) arg8 fullShare wb ∗ owns (c : Thread nD τ) arg9 fullShare comp ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare u ∗ owns (c : Thread nD τ) arg2 fullShare seg ∗ owns (c : Thread nD τ) arg3 fullShare bsp ∗ owns (c : Thread nD τ) arg4 fullShare bio ∗ owns (c : Thread nD τ) arg5 fullShare lw ∗ owns (c : Thread nD τ) arg6 fullShare hw ∗ owns (c : Thread nD τ) arg7 fullShare ws ∗ owns (c : Thread nD τ) arg8 fullShare wb ∗ owns (c : Thread nD τ) arg9 fullShare comp ∗ owns (c : Thread nD τ) arg10 fullShare (newQ u seg bsp bio lw hw ws wb comp) ∗ owns (c : Thread nD τ) arg11 fullShare (spSum u seg bsp bio lw hw ws wb comp) ∗ owns (c : Thread nD τ) arg12 fullShare (ioSum u seg bsp bio lw hw ws wb comp)) -∗ K ⟨⟩))
      ⊢ wp frame (wpE (defs₀ (F := F)) Variants.none c none) E (cc1__kernel_b i arg1 harg1 arg2 harg2 arg3 harg3 arg4 harg4 arg5 harg5 arg6 harg6 arg7 harg7 arg8 harg8 arg9 harg9 arg10 harg10 arg11 harg11 arg12 harg12) K := by
  simp only [cc1__kernel_b_eq_skeleton]; unfold cc1__kernel_b_skel
  simp only [k1_part1_eq_skeleton, k1_part2_eq_skeleton, k1_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  sl_exec (disch := first | sl_exact hc0 | sl_exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr
    swap; · iexact H9
    ipureintro
    rw [read_store _ _ zero2]; sl_unfold_words; simp only [readAt2, readAt3, hf0, hf1, hf2, hf3, hf4, hf5, hf6, hf7, hf8]
    rfl
  isplitl [H10]
  · iexists _; isplitr
    swap; · iexact H10
    ipureintro
    rw [read_store _ _ zero2]; sl_unfold_words; simp only [readAt2, readAt3, hf0, hf1, hf2, hf3, hf4, hf5, hf6, hf7, hf8]
    rfl
  iexists _; isplitr
  swap; · iexact H11
  ipureintro
  rw [read_store _ _ zero2]; sl_unfold_words; simp only [readAt2, readAt3, hf0, hf1, hf2, hf3, hf4, hf5, hf6, hf7, hf8]
  rfl

/-- A later point's body: the updated block, and the accumulators with the block's sums added. -/
theorem bodyB_next (c : Dev nD) (i : grid1.Coords) (arg1 : Memref sig .tc .vmem S21x2048 .f32) (harg1 : arg1.IsWhole) (arg2 : Memref sig .tc .vmem S1x1x2048 .i32) (harg2 : arg2.IsWhole) (arg3 : Memref sig .tc .vmem S21x128 .f32) (harg3 : arg3.IsWhole) (arg4 : Memref sig .tc .vmem S21x128 .f32) (harg4 : arg4.IsWhole) (arg5 : Memref sig .tc .vmem S21x3 .f32) (harg5 : arg5.IsWhole) (arg6 : Memref sig .tc .vmem S1x3 .f32) (harg6 : arg6.IsWhole) (arg7 : Memref sig .tc .vmem S21x21 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x2048 .f32) (harg10 : arg10.IsWhole) (arg11 : Memref sig .tc .vmem S21x128 .f32) (harg11 : arg11.IsWhole) (arg12 : Memref sig .tc .vmem S21x128 .f32) (harg12 : arg12.IsWhole) (hc0 : ¬k1_cond1 i = 1#1) (hc1 : k1_cond2 i = 1#1)
    (u : Vec F S21x2048 .f32) (seg : Vec F S1x1x2048 .i32) (bsp : Vec F S21x128 .f32) (bio : Vec F S21x128 .f32) (lw : Vec F S21x3 .f32) (hw : Vec F S1x3 .f32) (ws : Vec F S21x21 .f32) (wb : Vec F S21x21 .f32) (comp : Vec F S21x21 .f32)
    (y2 : Vec F S21x128 .f32) (y3 : Vec F S21x128 .f32) (E : Set ℕ) (K : PUnit → sProp 𝕄) :
    iprop(owns (c : Thread nD τ) arg1 fullShare u ∗ owns (c : Thread nD τ) arg2 fullShare seg ∗ owns (c : Thread nD τ) arg3 fullShare bsp ∗ owns (c : Thread nD τ) arg4 fullShare bio ∗ owns (c : Thread nD τ) arg5 fullShare lw ∗ owns (c : Thread nD τ) arg6 fullShare hw ∗ owns (c : Thread nD τ) arg7 fullShare ws ∗ owns (c : Thread nD τ) arg8 fullShare wb ∗ owns (c : Thread nD τ) arg9 fullShare comp ∗ (∃ d, owns (c : Thread nD τ) arg10 fullShare d) ∗ owns (c : Thread nD τ) arg11 fullShare y2 ∗ owns (c : Thread nD τ) arg12 fullShare y3
        ∗ (iprop(owns (c : Thread nD τ) arg1 fullShare u ∗ owns (c : Thread nD τ) arg2 fullShare seg ∗ owns (c : Thread nD τ) arg3 fullShare bsp ∗ owns (c : Thread nD τ) arg4 fullShare bio ∗ owns (c : Thread nD τ) arg5 fullShare lw ∗ owns (c : Thread nD τ) arg6 fullShare hw ∗ owns (c : Thread nD τ) arg7 fullShare ws ∗ owns (c : Thread nD τ) arg8 fullShare wb ∗ owns (c : Thread nD τ) arg9 fullShare comp ∗ owns (c : Thread nD τ) arg10 fullShare (newQ u seg bsp bio lw hw ws wb comp) ∗ owns (c : Thread nD τ) arg11 fullShare (spNext u seg bsp bio lw hw ws wb comp y2) ∗ owns (c : Thread nD τ) arg12 fullShare (ioNext u seg bsp bio lw hw ws wb comp y3)) -∗ K ⟨⟩))
      ⊢ wp frame (wpE (defs₀ (F := F)) Variants.none c none) E (cc1__kernel_b i arg1 harg1 arg2 harg2 arg3 harg3 arg4 harg4 arg5 harg5 arg6 harg6 arg7 harg7 arg8 harg8 arg9 harg9 arg10 harg10 arg11 harg11 arg12 harg12) K := by
  simp only [cc1__kernel_b_eq_skeleton]; unfold cc1__kernel_b_skel
  simp only [k1_part1_eq_skeleton, k1_part2_eq_skeleton, k1_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, Hk⟩
  sl_exec (disch := first | sl_exact hc0 | sl_exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr
    swap; · iexact H9
    ipureintro
    rw [read_store _ _ zero2]; sl_unfold_words; simp only [readAt2, readAt3, hf0, hf1, hf2, hf3, hf4, hf5, hf6, hf7, hf8]
    rfl
  isplitl [H10]
  · iexists _; isplitr
    swap; · iexact H10
    ipureintro
    rw [read_store _ _ zero2]; sl_unfold_words; simp only [readAt2, readAt3, hf0, hf1, hf2, hf3, hf4, hf5, hf6, hf7, hf8, hf10]
    rfl
  iexists _; isplitr
  swap; · iexact H11
  ipureintro
  rw [read_store _ _ zero2]; sl_unfold_words; simp only [readAt2, readAt3, hf0, hf1, hf2, hf3, hf4, hf5, hf6, hf7, hf8, hf11]
  rfl

end Cert.KernelIdeal.Hand

end
-- ==== Proof.RegionB.lean ====
/- The second kernel over its 96 points: what its arrays and buffers hold, at any entry contents. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.BodyB
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (W : Dev nD → Valuation τ sig (Elt F))

/-- The block that window `w` reads at point `t`, of the arrays as the region finds them. -/
def iblkB (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

abbrev ms1_0 (t : Fin cfg1.N) : Memref sig .tc .vmem S21x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x2048 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S21x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S21x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S21x3 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x3 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S21x21 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S21x21 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S21x21 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S21x2048 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S21x128 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S21x128 .f32 := win1_11.stage (cfg1.slots t 11)
abbrev hs1_11 (t : Fin cfg1.N) : (ms1_11 t).IsWhole := hstage1_11 ((cfg1.slots t 11).cast nbuf1_11)

/-- The first condition holds at the first point alone, -/
theorem hcond1_0 (t : Fin cfg1.N) : k1_cond1 (grid1.coords t) = 1#1 ↔ t.val = 0 := by
  have ht : t.val < 96 := Nat.lt_of_lt_of_eq t.isLt N_1
  have e0 : (grid1.coords t 0).val = t.val / 1 % 96 := Pipeline.Grid.coords_val t 0 (by decide) rfl
  simp only [k1_cond1, e0]; word_cmp

/-- and the second at every later point. -/
theorem hcond1_1 (t : Fin cfg1.N) : k1_cond2 (grid1.coords t) = 1#1 ↔ 1 ≤ t.val := by
  have ht : t.val < 96 := Nat.lt_of_lt_of_eq t.isLt N_1
  have e0 : (grid1.coords t 0).val = t.val / 1 % 96 := Pipeline.Grid.coords_val t 0 (by decide) rfl
  simp only [k1_cond2, e0]; word_cmp

/-- Whether an accumulator's buffer holds nothing yet at position `n`: only before the first point, and after the
    last, which writes it back. -/
def freshTab1 : ℕ → Bool
  | 0 => true
  | n + 1 => decide (n = 95)

theorem fresh1_10 (t : Fin cfg1.N) (h : 1 ≤ t.val) : cfg1.fresh 10 t.val = false := by
  have hs : ∀ t : Fin cfg1.N, freshTab1 (t.val + 1) = ((cfg1.win 10).flush t || (cfg1.idle 10 (cfg1.grid.coords t) && freshTab1 t.val)) := by
    decide +kernel
  have ht : t.val < 96 := Nat.lt_of_lt_of_eq t.isLt N_1
  rw [Pipeline.Cfg.fresh_tab cfg1 10 freshTab1 rfl hs t.val (Nat.le_of_lt t.isLt)]
  obtain ⟨_ | n, hn⟩ := t
  · exact absurd h (Nat.not_succ_le_zero 0)
  · exact decide_eq_false (by dsimp only at ht; omega)

theorem live1_10 : ∀ t : Fin cfg1.N, cfg1.idle 10 (grid1.coords t) = false := by decide +kernel

theorem fresh1_11 (t : Fin cfg1.N) (h : 1 ≤ t.val) : cfg1.fresh 11 t.val = false := by
  have hs : ∀ t : Fin cfg1.N, freshTab1 (t.val + 1) = ((cfg1.win 11).flush t || (cfg1.idle 11 (cfg1.grid.coords t) && freshTab1 t.val)) := by
    decide +kernel
  have ht : t.val < 96 := Nat.lt_of_lt_of_eq t.isLt N_1
  rw [Pipeline.Cfg.fresh_tab cfg1 11 freshTab1 rfl hs t.val (Nat.le_of_lt t.isLt)]
  obtain ⟨_ | n, hn⟩ := t
  · exact absurd h (Nat.not_succ_le_zero 0)
  · exact decide_eq_false (by dsimp only at ht; omega)

theorem live1_11 : ∀ t : Fin cfg1.N, cfg1.idle 11 (grid1.coords t) = false := by decide +kernel

/-- The two accumulators after point `n`. -/
def accB (c : Dev nD) : (n : ℕ) → n < cfg1.N → Vec F S21x128 .f32 × Vec F S21x128 .f32
  | 0, h => (spSum (iblkB W c 0 ⟨0, h⟩) (iblkB W c 1 ⟨0, h⟩) (iblkB W c 2 ⟨0, h⟩) (iblkB W c 3 ⟨0, h⟩) (iblkB W c 4 ⟨0, h⟩) (iblkB W c 5 ⟨0, h⟩) (iblkB W c 6 ⟨0, h⟩) (iblkB W c 7 ⟨0, h⟩) (iblkB W c 8 ⟨0, h⟩),
      ioSum (iblkB W c 0 ⟨0, h⟩) (iblkB W c 1 ⟨0, h⟩) (iblkB W c 2 ⟨0, h⟩) (iblkB W c 3 ⟨0, h⟩) (iblkB W c 4 ⟨0, h⟩) (iblkB W c 5 ⟨0, h⟩) (iblkB W c 6 ⟨0, h⟩) (iblkB W c 7 ⟨0, h⟩) (iblkB W c 8 ⟨0, h⟩))
  | n + 1, h => (spNext (iblkB W c 0 ⟨n + 1, h⟩) (iblkB W c 1 ⟨n + 1, h⟩) (iblkB W c 2 ⟨n + 1, h⟩) (iblkB W c 3 ⟨n + 1, h⟩) (iblkB W c 4 ⟨n + 1, h⟩) (iblkB W c 5 ⟨n + 1, h⟩) (iblkB W c 6 ⟨n + 1, h⟩) (iblkB W c 7 ⟨n + 1, h⟩) (iblkB W c 8 ⟨n + 1, h⟩) (accB c n (Nat.lt_of_succ_lt h)).1,
      ioNext (iblkB W c 0 ⟨n + 1, h⟩) (iblkB W c 1 ⟨n + 1, h⟩) (iblkB W c 2 ⟨n + 1, h⟩) (iblkB W c 3 ⟨n + 1, h⟩) (iblkB W c 4 ⟨n + 1, h⟩) (iblkB W c 5 ⟨n + 1, h⟩) (iblkB W c 6 ⟨n + 1, h⟩) (iblkB W c 7 ⟨n + 1, h⟩) (iblkB W c 8 ⟨n + 1, h⟩) (accB c n (Nat.lt_of_succ_lt h)).2)

/-- What the region's arrays hold when it is entered, and what each point leaves in the buffers. -/
def datB (c : Dev nD) : Dat τ (Elt F) Unit ℕ (UR sig nD τ) ℕ cfg1 c where
  A w := W c (Proc.devRef .tc (Pipeline.arrRef spec1 w))
  after w t := match w with
    | ⟨0, _⟩ => iblkB W c 0 t
    | ⟨1, _⟩ => iblkB W c 1 t
    | ⟨2, _⟩ => iblkB W c 2 t
    | ⟨3, _⟩ => iblkB W c 3 t
    | ⟨4, _⟩ => iblkB W c 4 t
    | ⟨5, _⟩ => iblkB W c 5 t
    | ⟨6, _⟩ => iblkB W c 6 t
    | ⟨7, _⟩ => iblkB W c 7 t
    | ⟨8, _⟩ => iblkB W c 8 t
    | ⟨9, _⟩ => newQ (iblkB W c 0 t) (iblkB W c 1 t) (iblkB W c 2 t) (iblkB W c 3 t) (iblkB W c 4 t) (iblkB W c 5 t) (iblkB W c 6 t) (iblkB W c 7 t) (iblkB W c 8 t)
    | ⟨10, _⟩ => (accB W c t.val t.isLt).1
    | ⟨11, _⟩ => (accB W c t.val t.isLt).2
  Φ _ := Pipeline.ΦA spec1 c
  q _ := fullShare
  owed _ := 0

theorem A_eqB (c : Dev nD) (w : Fin cfg1.W) : (datB W c).A w = W c (Proc.devRef .tc (Pipeline.arrRef spec1 w)) := by
  dsimp only [datB]

theorem after1_0 (c : Dev nD) (t : Fin cfg1.N) : (datB W c).after 0 t = iblkB W c 0 t := by dsimp only [datB]
theorem after1_1 (c : Dev nD) (t : Fin cfg1.N) : (datB W c).after 1 t = iblkB W c 1 t := by dsimp only [datB]
theorem after1_2 (c : Dev nD) (t : Fin cfg1.N) : (datB W c).after 2 t = iblkB W c 2 t := by dsimp only [datB]
theorem after1_3 (c : Dev nD) (t : Fin cfg1.N) : (datB W c).after 3 t = iblkB W c 3 t := by dsimp only [datB]
theorem after1_4 (c : Dev nD) (t : Fin cfg1.N) : (datB W c).after 4 t = iblkB W c 4 t := by dsimp only [datB]
theorem after1_5 (c : Dev nD) (t : Fin cfg1.N) : (datB W c).after 5 t = iblkB W c 5 t := by dsimp only [datB]
theorem after1_6 (c : Dev nD) (t : Fin cfg1.N) : (datB W c).after 6 t = iblkB W c 6 t := by dsimp only [datB]
theorem after1_7 (c : Dev nD) (t : Fin cfg1.N) : (datB W c).after 7 t = iblkB W c 7 t := by dsimp only [datB]
theorem after1_8 (c : Dev nD) (t : Fin cfg1.N) : (datB W c).after 8 t = iblkB W c 8 t := by dsimp only [datB]
theorem after1_9 (c : Dev nD) (t : Fin cfg1.N) : (datB W c).after 9 t = newQ (iblkB W c 0 t) (iblkB W c 1 t) (iblkB W c 2 t) (iblkB W c 3 t) (iblkB W c 4 t) (iblkB W c 5 t) (iblkB W c 6 t) (iblkB W c 7 t) (iblkB W c 8 t) := by dsimp only [datB]
theorem after1_10 (c : Dev nD) (t : Fin cfg1.N) : (datB W c).after 10 t = (accB W c t.val t.isLt).1 := by dsimp only [datB]
theorem after1_11 (c : Dev nD) (t : Fin cfg1.N) : (datB W c).after 11 t = (accB W c t.val t.isLt).2 := by dsimp only [datB]
theorem before1_0 (c : Dev nD) (t : Fin cfg1.N) (d) : (datB W c).before 0 t d = iblkB W c 0 t :=
  ((datB W c).before_in_eq_fetched 0 rfl (fun _ => rfl) (fun _ _ _ => rfl) (fun t => by rw [after1_0]; unfold Dat.blockOf iblkB; rw [A_eqB]; try rfl) t d).trans
    (by unfold Dat.fetched Dat.blockOf iblkB; rw [A_eqB]; try rfl)
theorem before1_1 (c : Dev nD) (t : Fin cfg1.N) (d) : (datB W c).before 1 t d = iblkB W c 1 t :=
  ((datB W c).before_in_eq_fetched 1 rfl (fun _ => rfl) (fun _ _ _ => rfl) (fun t => by rw [after1_1]; unfold Dat.blockOf iblkB; rw [A_eqB]; try rfl) t d).trans
    (by unfold Dat.fetched Dat.blockOf iblkB; rw [A_eqB]; try rfl)
theorem before1_2 (c : Dev nD) (t : Fin cfg1.N) (d) : (datB W c).before 2 t d = iblkB W c 2 t :=
  ((datB W c).before_in_eq_fetched 2 rfl (fun _ => rfl) (fun _ _ _ => rfl) (fun t => by rw [after1_2]; unfold Dat.blockOf iblkB; rw [A_eqB]; try rfl) t d).trans
    (by unfold Dat.fetched Dat.blockOf iblkB; rw [A_eqB]; try rfl)
theorem before1_3 (c : Dev nD) (t : Fin cfg1.N) (d) : (datB W c).before 3 t d = iblkB W c 3 t :=
  ((datB W c).before_in_eq_fetched 3 rfl (fun _ => rfl) (fun _ _ _ => rfl) (fun t => by rw [after1_3]; unfold Dat.blockOf iblkB; rw [A_eqB]; try rfl) t d).trans
    (by unfold Dat.fetched Dat.blockOf iblkB; rw [A_eqB]; try rfl)
theorem before1_4 (c : Dev nD) (t : Fin cfg1.N) (d) : (datB W c).before 4 t d = iblkB W c 4 t :=
  ((datB W c).before_in_eq_fetched 4 rfl (fun _ => rfl) (fun _ _ _ => rfl) (fun t => by rw [after1_4]; unfold Dat.blockOf iblkB; rw [A_eqB]; try rfl) t d).trans
    (by unfold Dat.fetched Dat.blockOf iblkB; rw [A_eqB]; try rfl)
theorem before1_5 (c : Dev nD) (t : Fin cfg1.N) (d) : (datB W c).before 5 t d = iblkB W c 5 t :=
  ((datB W c).before_in_eq_fetched 5 rfl (fun _ => rfl) (fun _ _ _ => rfl) (fun t => by rw [after1_5]; unfold Dat.blockOf iblkB; rw [A_eqB]; try rfl) t d).trans
    (by unfold Dat.fetched Dat.blockOf iblkB; rw [A_eqB]; try rfl)
theorem before1_6 (c : Dev nD) (t : Fin cfg1.N) (d) : (datB W c).before 6 t d = iblkB W c 6 t :=
  ((datB W c).before_in_eq_fetched 6 rfl (fun _ => rfl) (fun _ _ _ => rfl) (fun t => by rw [after1_6]; unfold Dat.blockOf iblkB; rw [A_eqB]; try rfl) t d).trans
    (by unfold Dat.fetched Dat.blockOf iblkB; rw [A_eqB]; try rfl)
theorem before1_7 (c : Dev nD) (t : Fin cfg1.N) (d) : (datB W c).before 7 t d = iblkB W c 7 t :=
  ((datB W c).before_in_eq_fetched 7 rfl (fun _ => rfl) (fun _ _ _ => rfl) (fun t => by rw [after1_7]; unfold Dat.blockOf iblkB; rw [A_eqB]; try rfl) t d).trans
    (by unfold Dat.fetched Dat.blockOf iblkB; rw [A_eqB]; try rfl)
theorem before1_8 (c : Dev nD) (t : Fin cfg1.N) (d) : (datB W c).before 8 t d = iblkB W c 8 t :=
  ((datB W c).before_in_eq_fetched 8 rfl (fun _ => rfl) (fun _ _ _ => rfl) (fun t => by rw [after1_8]; unfold Dat.blockOf iblkB; rw [A_eqB]; try rfl) t d).trans
    (by unfold Dat.fetched Dat.blockOf iblkB; rw [A_eqB]; try rfl)

/-- At a later point the accumulator holds what the point before left. -/
theorem before1_10 (c : Dev nD) (t : Fin cfg1.N) (h : 1 ≤ t.val) (d) :
    (datB W c).before 10 t d = (accB W c (t.val - 1) (Nat.lt_of_le_of_lt (Nat.sub_le _ _) t.isLt)).1 := by
  rw [Dat.before_out_traj _ 10 rfl (fun _ _ => rfl)
      (fun t _ hi _ => by rw [live1_10 t] at hi; exact absurd hi Bool.false_ne_true) t.val t rfl d,
    if_neg (by rw [fresh1_10 t h]; exact Bool.false_ne_true)]
  dsimp only [datB]

/-- At a later point the accumulator holds what the point before left. -/
theorem before1_11 (c : Dev nD) (t : Fin cfg1.N) (h : 1 ≤ t.val) (d) :
    (datB W c).before 11 t d = (accB W c (t.val - 1) (Nat.lt_of_le_of_lt (Nat.sub_le _ _) t.isLt)).2 := by
  rw [Dat.before_out_traj _ 11 rfl (fun _ _ => rfl)
      (fun t _ hi _ => by rw [live1_11 t] at hi; exact absurd hi Bool.false_ne_true) t.val t rfl d,
    if_neg (by rw [fresh1_11 t h]; exact Bool.false_ne_true)]
  dsimp only [datB]

/-- What the body is called with at point `t`, window by window, -/
def bodyPreB (c : Dev nD) (t : Fin cfg1.N) : sProp 𝕄 :=
  iprop((datB W c).Φ t.castSucc ∗ (datB W c).owesAt () t.castSucc
    ∗ (∃ d, owns (c : Thread nD τ) (ms1_0 t) fullShare ((datB W c).before 0 t d))
    ∗ (∃ d, owns (c : Thread nD τ) (ms1_1 t) fullShare ((datB W c).before 1 t d))
    ∗ (∃ d, owns (c : Thread nD τ) (ms1_2 t) fullShare ((datB W c).before 2 t d))
    ∗ (∃ d, owns (c : Thread nD τ) (ms1_3 t) fullShare ((datB W c).before 3 t d))
    ∗ (∃ d, owns (c : Thread nD τ) (ms1_4 t) fullShare ((datB W c).before 4 t d))
    ∗ (∃ d, owns (c : Thread nD τ) (ms1_5 t) fullShare ((datB W c).before 5 t d))
    ∗ (∃ d, owns (c : Thread nD τ) (ms1_6 t) fullShare ((datB W c).before 6 t d))
    ∗ (∃ d, owns (c : Thread nD τ) (ms1_7 t) fullShare ((datB W c).before 7 t d))
    ∗ (∃ d, owns (c : Thread nD τ) (ms1_8 t) fullShare ((datB W c).before 8 t d))
    ∗ (∃ d, owns (c : Thread nD τ) (ms1_9 t) fullShare ((datB W c).before 9 t d))
    ∗ (∃ d, owns (c : Thread nD τ) (ms1_10 t) fullShare ((datB W c).before 10 t d))
    ∗ (∃ d, owns (c : Thread nD τ) (ms1_11 t) fullShare ((datB W c).before 11 t d)))

/-- and what it returns. -/
def bodyPostB (c : Dev nD) (t : Fin cfg1.N) : sProp 𝕄 :=
  iprop((datB W c).Φ t.succ ∗ (datB W c).owesAt () t.succ
    ∗ (datB W c).leavesExact 0 t
    ∗ (datB W c).leavesExact 1 t
    ∗ (datB W c).leavesExact 2 t
    ∗ (datB W c).leavesExact 3 t
    ∗ (datB W c).leavesExact 4 t
    ∗ (datB W c).leavesExact 5 t
    ∗ (datB W c).leavesExact 6 t
    ∗ (datB W c).leavesExact 7 t
    ∗ (datB W c).leavesExact 8 t
    ∗ (datB W c).leavesExact 9 t
    ∗ (datB W c).leavesExact 10 t
    ∗ (datB W c).leavesExact 11 t)

theorem leaves1_0 (c : Dev nD) (t : Fin cfg1.N) : (datB W c).leavesExact 0 t = owns (c : Thread nD τ) (ms1_0 t) fullShare ((datB W c).after 0 t) := by
  unfold Dat.leavesExact; rw [show cfg1.idle 0 (grid1.coords t) = false from rfl]
theorem leaves1_1 (c : Dev nD) (t : Fin cfg1.N) : (datB W c).leavesExact 1 t = owns (c : Thread nD τ) (ms1_1 t) fullShare ((datB W c).after 1 t) := by
  unfold Dat.leavesExact; rw [show cfg1.idle 1 (grid1.coords t) = false from rfl]
theorem leaves1_2 (c : Dev nD) (t : Fin cfg1.N) : (datB W c).leavesExact 2 t = owns (c : Thread nD τ) (ms1_2 t) fullShare ((datB W c).after 2 t) := by
  unfold Dat.leavesExact; rw [show cfg1.idle 2 (grid1.coords t) = false from rfl]
theorem leaves1_3 (c : Dev nD) (t : Fin cfg1.N) : (datB W c).leavesExact 3 t = owns (c : Thread nD τ) (ms1_3 t) fullShare ((datB W c).after 3 t) := by
  unfold Dat.leavesExact; rw [show cfg1.idle 3 (grid1.coords t) = false from rfl]
theorem leaves1_4 (c : Dev nD) (t : Fin cfg1.N) : (datB W c).leavesExact 4 t = owns (c : Thread nD τ) (ms1_4 t) fullShare ((datB W c).after 4 t) := by
  unfold Dat.leavesExact; rw [show cfg1.idle 4 (grid1.coords t) = false from rfl]
theorem leaves1_5 (c : Dev nD) (t : Fin cfg1.N) : (datB W c).leavesExact 5 t = owns (c : Thread nD τ) (ms1_5 t) fullShare ((datB W c).after 5 t) := by
  unfold Dat.leavesExact; rw [show cfg1.idle 5 (grid1.coords t) = false from rfl]
theorem leaves1_6 (c : Dev nD) (t : Fin cfg1.N) : (datB W c).leavesExact 6 t = owns (c : Thread nD τ) (ms1_6 t) fullShare ((datB W c).after 6 t) := by
  unfold Dat.leavesExact; rw [show cfg1.idle 6 (grid1.coords t) = false from rfl]
theorem leaves1_7 (c : Dev nD) (t : Fin cfg1.N) : (datB W c).leavesExact 7 t = owns (c : Thread nD τ) (ms1_7 t) fullShare ((datB W c).after 7 t) := by
  unfold Dat.leavesExact; rw [show cfg1.idle 7 (grid1.coords t) = false from rfl]
theorem leaves1_8 (c : Dev nD) (t : Fin cfg1.N) : (datB W c).leavesExact 8 t = owns (c : Thread nD τ) (ms1_8 t) fullShare ((datB W c).after 8 t) := by
  unfold Dat.leavesExact; rw [show cfg1.idle 8 (grid1.coords t) = false from rfl]
theorem leaves1_9 (c : Dev nD) (t : Fin cfg1.N) : (datB W c).leavesExact 9 t = owns (c : Thread nD τ) (ms1_9 t) fullShare ((datB W c).after 9 t) := by
  unfold Dat.leavesExact; rw [show cfg1.idle 9 (grid1.coords t) = false from rfl]
theorem leaves1_10 (c : Dev nD) (t : Fin cfg1.N) : (datB W c).leavesExact 10 t = owns (c : Thread nD τ) (ms1_10 t) fullShare ((datB W c).after 10 t) := by
  unfold Dat.leavesExact; rw [live1_10 t]
theorem leaves1_11 (c : Dev nD) (t : Fin cfg1.N) : (datB W c).leavesExact 11 t = owns (c : Thread nD τ) (ms1_11 t) fullShare ((datB W c).after 11 t) := by
  unfold Dat.leavesExact; rw [live1_11 t]

/-- The accumulators after the first point. -/
theorem accB_first (c : Dev nD) (t : Fin cfg1.N) (h : t.val = 0) :
    accB W c t.val t.isLt = (spSum (iblkB W c 0 t) (iblkB W c 1 t) (iblkB W c 2 t) (iblkB W c 3 t) (iblkB W c 4 t) (iblkB W c 5 t) (iblkB W c 6 t) (iblkB W c 7 t) (iblkB W c 8 t),
      ioSum (iblkB W c 0 t) (iblkB W c 1 t) (iblkB W c 2 t) (iblkB W c 3 t) (iblkB W c 4 t) (iblkB W c 5 t) (iblkB W c 6 t) (iblkB W c 7 t) (iblkB W c 8 t)) := by
  obtain ⟨_ | n, hn⟩ := t
  · rfl
  · exact absurd h (Nat.succ_ne_zero n)

/-- The accumulators after a later point, over what the point before left. -/
theorem accB_next (c : Dev nD) (t : Fin cfg1.N) (h : 1 ≤ t.val) :
    accB W c t.val t.isLt = (spNext (iblkB W c 0 t) (iblkB W c 1 t) (iblkB W c 2 t) (iblkB W c 3 t) (iblkB W c 4 t) (iblkB W c 5 t) (iblkB W c 6 t) (iblkB W c 7 t) (iblkB W c 8 t) (accB W c (t.val - 1) (Nat.lt_of_le_of_lt (Nat.sub_le _ _) t.isLt)).1,
      ioNext (iblkB W c 0 t) (iblkB W c 1 t) (iblkB W c 2 t) (iblkB W c 3 t) (iblkB W c 4 t) (iblkB W c 5 t) (iblkB W c 6 t) (iblkB W c 7 t) (iblkB W c 8 t) (accB W c (t.val - 1) (Nat.lt_of_le_of_lt (Nat.sub_le _ _) t.isLt)).2) := by
  obtain ⟨_ | n, hn⟩ := t
  · exact absurd h (Nat.not_succ_le_zero 0)
  · rfl

set_option maxHeartbeats 800000 in
/-- The body at any point: the inputs' buffers hold their blocks, and the outputs end at what the proof data say. -/
theorem soundB (c : Dev nD) (t : Fin cfg1.N) :
    bodyPreB W c t ⊢ wp frame (wpE (defs₀ (F := F)) Variants.none c none) Set.univ (bodyAt1 t) (fun _ => bodyPostB W c t) := by
  unfold bodyPreB bodyPostB bodyAt1
  simp only [before1_0, before1_1, before1_2, before1_3, before1_4, before1_5, before1_6, before1_7, before1_8]
  rw [show (datB W c).Φ t.succ = (datB W c).Φ t.castSucc from rfl,
    show (datB W c).owesAt () t.succ = (datB W c).owesAt () t.castSucc from rfl]
  rw [leaves1_0, leaves1_1, leaves1_2, leaves1_3, leaves1_4, leaves1_5, leaves1_6, leaves1_7, leaves1_8, leaves1_9, leaves1_10, leaves1_11]
  rw [after1_0, after1_1, after1_2, after1_3, after1_4, after1_5, after1_6, after1_7, after1_8, after1_9, after1_10, after1_11]
  by_cases h0 : t.val = 0
  · have h1 : ¬1 ≤ t.val := by omega
    rw [accB_first W c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (bodyB_first c (grid1.coords t) _ _ _ _ _ _ _ _ _ _ _ _ _ _ _ _ _ _ _ _ _ _ _ _ ((hcond1_0 _).mpr h0) (fun h => h1 ((hcond1_1 _).mp h)) _ _ _ _ _ _ _ _ _  Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · have h1 : 1 ≤ t.val := by omega
    rw [accB_next W c t h1]
    simp only [before1_10 W c t h1, before1_11 W c t h1]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (bodyB_next c (grid1.coords t) _ _ _ _ _ _ _ _ _ _ _ _ _ _ _ _ _ _ _ _ _ _ _ _ (fun h => h0 ((hcond1_0 _).mp h)) ((hcond1_1 _).mpr h1) _ _ _ _ _ _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The body obligation, at every point. -/
theorem obligationB (c : Dev nD) : BodyObligation (datB (F := F) W c) (defs₀ (F := F)) Variants.none () Set.univ := fun t => by
  rw [bigSep_W1, bigSep_W1, show defs₀ (F := F) .tc cfg1.body (cfg1.bodyArgs t (cfg1.slots t)) = bodyAt1 t from by
    unfold defs₀; rw [Defs.onTc_tc]]
  exact triple_restated (soundB W c t) rfl .rfl fun _ => .rfl

end Cert.KernelIdeal.Hand

end
-- ==== Proof.BodyC.lean ====
/- What one grid point of the third kernel leaves: the second update of its block. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Stores
public import proofs.«01_k».proof.Proof.BlockValues
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Stores

variable {F : FTy → Type} [FloatOps F]

local notation "𝕄" => MT nD τ sig Unit (Elt F) ℕ (UR sig nD τ) ℕ

/-- Every point's body: the second update's block. -/
theorem bodyC (c : Dev nD) (i : grid2.Coords) (arg1 : Memref sig .tc .vmem S21x2048 .f32) (harg1 : arg1.IsWhole) (arg2 : Memref sig .tc .vmem S21x2048 .f32) (harg2 : arg2.IsWhole) (arg3 : Memref sig .tc .vmem S1x1x2048 .i32) (harg3 : arg3.IsWhole) (arg4 : Memref sig .tc .vmem S21x128 .f32) (harg4 : arg4.IsWhole) (arg5 : Memref sig .tc .vmem S21x128 .f32) (harg5 : arg5.IsWhole) (arg6 : Memref sig .tc .vmem S21x3 .f32) (harg6 : arg6.IsWhole) (arg7 : Memref sig .tc .vmem S1x3 .f32) (harg7 : arg7.IsWhole) (arg8 : Memref sig .tc .vmem S21x21 .f32) (harg8 : arg8.IsWhole) (arg9 : Memref sig .tc .vmem S21x21 .f32) (harg9 : arg9.IsWhole) (arg10 : Memref sig .tc .vmem S21x21 .f32) (harg10 : arg10.IsWhole) (arg11 : Memref sig .tc .vmem S21x2048 .f32) (harg11 : arg11.IsWhole)
    (u : Vec F S21x2048 .f32) (q : Vec F S21x2048 .f32) (seg : Vec F S1x1x2048 .i32) (bsp : Vec F S21x128 .f32) (bio : Vec F S21x128 .f32) (lw : Vec F S21x3 .f32) (hw : Vec F S1x3 .f32) (ws : Vec F S21x21 .f32) (wb : Vec F S21x21 .f32) (comp : Vec F S21x21 .f32)
     (E : Set ℕ) (K : PUnit → sProp 𝕄) :
    iprop(owns (c : Thread nD τ) arg1 fullShare u ∗ owns (c : Thread nD τ) arg2 fullShare q ∗ owns (c : Thread nD τ) arg3 fullShare seg ∗ owns (c : Thread nD τ) arg4 fullShare bsp ∗ owns (c : Thread nD τ) arg5 fullShare bio ∗ owns (c : Thread nD τ) arg6 fullShare lw ∗ owns (c : Thread nD τ) arg7 fullShare hw ∗ owns (c : Thread nD τ) arg8 fullShare ws ∗ owns (c : Thread nD τ) arg9 fullShare wb ∗ owns (c : Thread nD τ) arg10 fullShare comp ∗ (∃ d, owns (c : Thread nD τ) arg11 fullShare d)
        ∗ (iprop(owns (c : Thread nD τ) arg1 fullShare u ∗ owns (c : Thread nD τ) arg2 fullShare q ∗ owns (c : Thread nD τ) arg3 fullShare seg ∗ owns (c : Thread nD τ) arg4 fullShare bsp ∗ owns (c : Thread nD τ) arg5 fullShare bio ∗ owns (c : Thread nD τ) arg6 fullShare lw ∗ owns (c : Thread nD τ) arg7 fullShare hw ∗ owns (c : Thread nD τ) arg8 fullShare ws ∗ owns (c : Thread nD τ) arg9 fullShare wb ∗ owns (c : Thread nD τ) arg10 fullShare comp ∗ owns (c : Thread nD τ) arg11 fullShare (outQ u q seg bsp bio lw hw ws wb comp)) -∗ K ⟨⟩))
      ⊢ wp frame (wpE (defs₀ (F := F)) Variants.none c none) E (cc2__kernel_c i arg1 harg1 arg2 harg2 arg3 harg3 arg4 harg4 arg5 harg5 arg6 harg6 arg7 harg7 arg8 harg8 arg9 harg9 arg10 harg10 arg11 harg11) K := by
  simp only [cc2__kernel_c_eq_skeleton]; unfold cc2__kernel_c_skel
  simp only [k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  iexists _; isplitr
  swap; · iexact H10
  ipureintro
  rw [read_store _ _ zero2]; sl_unfold_words; simp only [readAt2, readAt3, hf0, hf1, hf2, hf3, hf4, hf5, hf6, hf7, hf8, hf9]
  rfl

end Cert.KernelIdeal.Hand

end
-- ==== Proof.RegionC.lean ====
/- The third kernel over its 96 points: what its arrays and buffers hold, at any entry contents. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.BodyC
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (W : Dev nD → Valuation τ sig (Elt F))

/-- The block that window `w` reads at point `t`, of the arrays as the region finds them. -/
def iblkC (c : Dev nD) (w : Fin cfg2.W) (t : Fin cfg2.N) : ((cfg2.win w).xblock (cfg2.grid.coords t)).Idx → Elt F (cfg2.win w).elt :=
  ((cfg2.win w).blk t).view.read (Elt F) (W c (Proc.devRef .tc (Pipeline.arrRef spec2 w)))

abbrev ms2_0 (t : Fin cfg2.N) : Memref sig .tc .vmem S21x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S21x2048 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1x2048 .i32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S21x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S21x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S21x3 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x3 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S21x21 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S21x21 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S21x21 .f32 := win2_9.stage (cfg2.slots t 9)
abbrev hs2_9 (t : Fin cfg2.N) : (ms2_9 t).IsWhole := hstage2_9 ((cfg2.slots t 9).cast nbuf2_9)
abbrev ms2_10 (t : Fin cfg2.N) : Memref sig .tc .vmem S21x2048 .f32 := win2_10.stage (cfg2.slots t 10)
abbrev hs2_10 (t : Fin cfg2.N) : (ms2_10 t).IsWhole := hstage2_10 ((cfg2.slots t 10).cast nbuf2_10)
/-- What the region's arrays hold when it is entered, and what each point leaves in the buffers. -/
def datC (c : Dev nD) : Dat τ (Elt F) Unit ℕ (UR sig nD τ) ℕ cfg2 c where
  A w := W c (Proc.devRef .tc (Pipeline.arrRef spec2 w))
  after w t := match w with
    | ⟨0, _⟩ => iblkC W c 0 t
    | ⟨1, _⟩ => iblkC W c 1 t
    | ⟨2, _⟩ => iblkC W c 2 t
    | ⟨3, _⟩ => iblkC W c 3 t
    | ⟨4, _⟩ => iblkC W c 4 t
    | ⟨5, _⟩ => iblkC W c 5 t
    | ⟨6, _⟩ => iblkC W c 6 t
    | ⟨7, _⟩ => iblkC W c 7 t
    | ⟨8, _⟩ => iblkC W c 8 t
    | ⟨9, _⟩ => iblkC W c 9 t
    | ⟨10, _⟩ => outQ (iblkC W c 0 t) (iblkC W c 1 t) (iblkC W c 2 t) (iblkC W c 3 t) (iblkC W c 4 t) (iblkC W c 5 t) (iblkC W c 6 t) (iblkC W c 7 t) (iblkC W c 8 t) (iblkC W c 9 t)
  Φ _ := Pipeline.ΦA spec2 c
  q _ := fullShare
  owed _ := 0

theorem A_eqC (c : Dev nD) (w : Fin cfg2.W) : (datC W c).A w = W c (Proc.devRef .tc (Pipeline.arrRef spec2 w)) := by
  dsimp only [datC]

theorem after2_0 (c : Dev nD) (t : Fin cfg2.N) : (datC W c).after 0 t = iblkC W c 0 t := by dsimp only [datC]
theorem after2_1 (c : Dev nD) (t : Fin cfg2.N) : (datC W c).after 1 t = iblkC W c 1 t := by dsimp only [datC]
theorem after2_2 (c : Dev nD) (t : Fin cfg2.N) : (datC W c).after 2 t = iblkC W c 2 t := by dsimp only [datC]
theorem after2_3 (c : Dev nD) (t : Fin cfg2.N) : (datC W c).after 3 t = iblkC W c 3 t := by dsimp only [datC]
theorem after2_4 (c : Dev nD) (t : Fin cfg2.N) : (datC W c).after 4 t = iblkC W c 4 t := by dsimp only [datC]
theorem after2_5 (c : Dev nD) (t : Fin cfg2.N) : (datC W c).after 5 t = iblkC W c 5 t := by dsimp only [datC]
theorem after2_6 (c : Dev nD) (t : Fin cfg2.N) : (datC W c).after 6 t = iblkC W c 6 t := by dsimp only [datC]
theorem after2_7 (c : Dev nD) (t : Fin cfg2.N) : (datC W c).after 7 t = iblkC W c 7 t := by dsimp only [datC]
theorem after2_8 (c : Dev nD) (t : Fin cfg2.N) : (datC W c).after 8 t = iblkC W c 8 t := by dsimp only [datC]
theorem after2_9 (c : Dev nD) (t : Fin cfg2.N) : (datC W c).after 9 t = iblkC W c 9 t := by dsimp only [datC]
theorem after2_10 (c : Dev nD) (t : Fin cfg2.N) : (datC W c).after 10 t = outQ (iblkC W c 0 t) (iblkC W c 1 t) (iblkC W c 2 t) (iblkC W c 3 t) (iblkC W c 4 t) (iblkC W c 5 t) (iblkC W c 6 t) (iblkC W c 7 t) (iblkC W c 8 t) (iblkC W c 9 t) := by dsimp only [datC]
theorem before2_0 (c : Dev nD) (t : Fin cfg2.N) (d) : (datC W c).before 0 t d = iblkC W c 0 t :=
  ((datC W c).before_in_eq_fetched 0 rfl (fun _ => rfl) (fun _ _ _ => rfl) (fun t => by rw [after2_0]; unfold Dat.blockOf iblkC; rw [A_eqC]; try rfl) t d).trans
    (by unfold Dat.fetched Dat.blockOf iblkC; rw [A_eqC]; try rfl)
theorem before2_1 (c : Dev nD) (t : Fin cfg2.N) (d) : (datC W c).before 1 t d = iblkC W c 1 t :=
  ((datC W c).before_in_eq_fetched 1 rfl (fun _ => rfl) (fun _ _ _ => rfl) (fun t => by rw [after2_1]; unfold Dat.blockOf iblkC; rw [A_eqC]; try rfl) t d).trans
    (by unfold Dat.fetched Dat.blockOf iblkC; rw [A_eqC]; try rfl)
theorem before2_2 (c : Dev nD) (t : Fin cfg2.N) (d) : (datC W c).before 2 t d = iblkC W c 2 t :=
  ((datC W c).before_in_eq_fetched 2 rfl (fun _ => rfl) (fun _ _ _ => rfl) (fun t => by rw [after2_2]; unfold Dat.blockOf iblkC; rw [A_eqC]; try rfl) t d).trans
    (by unfold Dat.fetched Dat.blockOf iblkC; rw [A_eqC]; try rfl)
theorem before2_3 (c : Dev nD) (t : Fin cfg2.N) (d) : (datC W c).before 3 t d = iblkC W c 3 t :=
  ((datC W c).before_in_eq_fetched 3 rfl (fun _ => rfl) (fun _ _ _ => rfl) (fun t => by rw [after2_3]; unfold Dat.blockOf iblkC; rw [A_eqC]; try rfl) t d).trans
    (by unfold Dat.fetched Dat.blockOf iblkC; rw [A_eqC]; try rfl)
theorem before2_4 (c : Dev nD) (t : Fin cfg2.N) (d) : (datC W c).before 4 t d = iblkC W c 4 t :=
  ((datC W c).before_in_eq_fetched 4 rfl (fun _ => rfl) (fun _ _ _ => rfl) (fun t => by rw [after2_4]; unfold Dat.blockOf iblkC; rw [A_eqC]; try rfl) t d).trans
    (by unfold Dat.fetched Dat.blockOf iblkC; rw [A_eqC]; try rfl)
theorem before2_5 (c : Dev nD) (t : Fin cfg2.N) (d) : (datC W c).before 5 t d = iblkC W c 5 t :=
  ((datC W c).before_in_eq_fetched 5 rfl (fun _ => rfl) (fun _ _ _ => rfl) (fun t => by rw [after2_5]; unfold Dat.blockOf iblkC; rw [A_eqC]; try rfl) t d).trans
    (by unfold Dat.fetched Dat.blockOf iblkC; rw [A_eqC]; try rfl)
theorem before2_6 (c : Dev nD) (t : Fin cfg2.N) (d) : (datC W c).before 6 t d = iblkC W c 6 t :=
  ((datC W c).before_in_eq_fetched 6 rfl (fun _ => rfl) (fun _ _ _ => rfl) (fun t => by rw [after2_6]; unfold Dat.blockOf iblkC; rw [A_eqC]; try rfl) t d).trans
    (by unfold Dat.fetched Dat.blockOf iblkC; rw [A_eqC]; try rfl)
theorem before2_7 (c : Dev nD) (t : Fin cfg2.N) (d) : (datC W c).before 7 t d = iblkC W c 7 t :=
  ((datC W c).before_in_eq_fetched 7 rfl (fun _ => rfl) (fun _ _ _ => rfl) (fun t => by rw [after2_7]; unfold Dat.blockOf iblkC; rw [A_eqC]; try rfl) t d).trans
    (by unfold Dat.fetched Dat.blockOf iblkC; rw [A_eqC]; try rfl)
theorem before2_8 (c : Dev nD) (t : Fin cfg2.N) (d) : (datC W c).before 8 t d = iblkC W c 8 t :=
  ((datC W c).before_in_eq_fetched 8 rfl (fun _ => rfl) (fun _ _ _ => rfl) (fun t => by rw [after2_8]; unfold Dat.blockOf iblkC; rw [A_eqC]; try rfl) t d).trans
    (by unfold Dat.fetched Dat.blockOf iblkC; rw [A_eqC]; try rfl)
theorem before2_9 (c : Dev nD) (t : Fin cfg2.N) (d) : (datC W c).before 9 t d = iblkC W c 9 t :=
  ((datC W c).before_in_eq_fetched 9 rfl (fun _ => rfl) (fun _ _ _ => rfl) (fun t => by rw [after2_9]; unfold Dat.blockOf iblkC; rw [A_eqC]; try rfl) t d).trans
    (by unfold Dat.fetched Dat.blockOf iblkC; rw [A_eqC]; try rfl)

/-- What the body is called with at point `t`, window by window, -/
def bodyPreC (c : Dev nD) (t : Fin cfg2.N) : sProp 𝕄 :=
  iprop((datC W c).Φ t.castSucc ∗ (datC W c).owesAt () t.castSucc
    ∗ (∃ d, owns (c : Thread nD τ) (ms2_0 t) fullShare ((datC W c).before 0 t d))
    ∗ (∃ d, owns (c : Thread nD τ) (ms2_1 t) fullShare ((datC W c).before 1 t d))
    ∗ (∃ d, owns (c : Thread nD τ) (ms2_2 t) fullShare ((datC W c).before 2 t d))
    ∗ (∃ d, owns (c : Thread nD τ) (ms2_3 t) fullShare ((datC W c).before 3 t d))
    ∗ (∃ d, owns (c : Thread nD τ) (ms2_4 t) fullShare ((datC W c).before 4 t d))
    ∗ (∃ d, owns (c : Thread nD τ) (ms2_5 t) fullShare ((datC W c).before 5 t d))
    ∗ (∃ d, owns (c : Thread nD τ) (ms2_6 t) fullShare ((datC W c).before 6 t d))
    ∗ (∃ d, owns (c : Thread nD τ) (ms2_7 t) fullShare ((datC W c).before 7 t d))
    ∗ (∃ d, owns (c : Thread nD τ) (ms2_8 t) fullShare ((datC W c).before 8 t d))
    ∗ (∃ d, owns (c : Thread nD τ) (ms2_9 t) fullShare ((datC W c).before 9 t d))
    ∗ (∃ d, owns (c : Thread nD τ) (ms2_10 t) fullShare ((datC W c).before 10 t d)))

/-- and what it returns. -/
def bodyPostC (c : Dev nD) (t : Fin cfg2.N) : sProp 𝕄 :=
  iprop((datC W c).Φ t.succ ∗ (datC W c).owesAt () t.succ
    ∗ (datC W c).leavesExact 0 t
    ∗ (datC W c).leavesExact 1 t
    ∗ (datC W c).leavesExact 2 t
    ∗ (datC W c).leavesExact 3 t
    ∗ (datC W c).leavesExact 4 t
    ∗ (datC W c).leavesExact 5 t
    ∗ (datC W c).leavesExact 6 t
    ∗ (datC W c).leavesExact 7 t
    ∗ (datC W c).leavesExact 8 t
    ∗ (datC W c).leavesExact 9 t
    ∗ (datC W c).leavesExact 10 t)

theorem leaves2_0 (c : Dev nD) (t : Fin cfg2.N) : (datC W c).leavesExact 0 t = owns (c : Thread nD τ) (ms2_0 t) fullShare ((datC W c).after 0 t) := by
  unfold Dat.leavesExact; rw [show cfg2.idle 0 (grid2.coords t) = false from rfl]
theorem leaves2_1 (c : Dev nD) (t : Fin cfg2.N) : (datC W c).leavesExact 1 t = owns (c : Thread nD τ) (ms2_1 t) fullShare ((datC W c).after 1 t) := by
  unfold Dat.leavesExact; rw [show cfg2.idle 1 (grid2.coords t) = false from rfl]
theorem leaves2_2 (c : Dev nD) (t : Fin cfg2.N) : (datC W c).leavesExact 2 t = owns (c : Thread nD τ) (ms2_2 t) fullShare ((datC W c).after 2 t) := by
  unfold Dat.leavesExact; rw [show cfg2.idle 2 (grid2.coords t) = false from rfl]
theorem leaves2_3 (c : Dev nD) (t : Fin cfg2.N) : (datC W c).leavesExact 3 t = owns (c : Thread nD τ) (ms2_3 t) fullShare ((datC W c).after 3 t) := by
  unfold Dat.leavesExact; rw [show cfg2.idle 3 (grid2.coords t) = false from rfl]
theorem leaves2_4 (c : Dev nD) (t : Fin cfg2.N) : (datC W c).leavesExact 4 t = owns (c : Thread nD τ) (ms2_4 t) fullShare ((datC W c).after 4 t) := by
  unfold Dat.leavesExact; rw [show cfg2.idle 4 (grid2.coords t) = false from rfl]
theorem leaves2_5 (c : Dev nD) (t : Fin cfg2.N) : (datC W c).leavesExact 5 t = owns (c : Thread nD τ) (ms2_5 t) fullShare ((datC W c).after 5 t) := by
  unfold Dat.leavesExact; rw [show cfg2.idle 5 (grid2.coords t) = false from rfl]
theorem leaves2_6 (c : Dev nD) (t : Fin cfg2.N) : (datC W c).leavesExact 6 t = owns (c : Thread nD τ) (ms2_6 t) fullShare ((datC W c).after 6 t) := by
  unfold Dat.leavesExact; rw [show cfg2.idle 6 (grid2.coords t) = false from rfl]
theorem leaves2_7 (c : Dev nD) (t : Fin cfg2.N) : (datC W c).leavesExact 7 t = owns (c : Thread nD τ) (ms2_7 t) fullShare ((datC W c).after 7 t) := by
  unfold Dat.leavesExact; rw [show cfg2.idle 7 (grid2.coords t) = false from rfl]
theorem leaves2_8 (c : Dev nD) (t : Fin cfg2.N) : (datC W c).leavesExact 8 t = owns (c : Thread nD τ) (ms2_8 t) fullShare ((datC W c).after 8 t) := by
  unfold Dat.leavesExact; rw [show cfg2.idle 8 (grid2.coords t) = false from rfl]
theorem leaves2_9 (c : Dev nD) (t : Fin cfg2.N) : (datC W c).leavesExact 9 t = owns (c : Thread nD τ) (ms2_9 t) fullShare ((datC W c).after 9 t) := by
  unfold Dat.leavesExact; rw [show cfg2.idle 9 (grid2.coords t) = false from rfl]
theorem leaves2_10 (c : Dev nD) (t : Fin cfg2.N) : (datC W c).leavesExact 10 t = owns (c : Thread nD τ) (ms2_10 t) fullShare ((datC W c).after 10 t) := by
  unfold Dat.leavesExact; rw [show cfg2.idle 10 (grid2.coords t) = false from rfl]

set_option maxHeartbeats 800000 in
/-- The body at any point: the inputs' buffers hold their blocks, and the outputs end at what the proof data say. -/
theorem soundC (c : Dev nD) (t : Fin cfg2.N) :
    bodyPreC W c t ⊢ wp frame (wpE (defs₀ (F := F)) Variants.none c none) Set.univ (bodyAt2 t) (fun _ => bodyPostC W c t) := by
  unfold bodyPreC bodyPostC bodyAt2
  simp only [before2_0, before2_1, before2_2, before2_3, before2_4, before2_5, before2_6, before2_7, before2_8, before2_9]
  rw [show (datC W c).Φ t.succ = (datC W c).Φ t.castSucc from rfl,
    show (datC W c).owesAt () t.succ = (datC W c).owesAt () t.castSucc from rfl]
  rw [leaves2_0, leaves2_1, leaves2_2, leaves2_3, leaves2_4, leaves2_5, leaves2_6, leaves2_7, leaves2_8, leaves2_9, leaves2_10]
  rw [after2_0, after2_1, after2_2, after2_3, after2_4, after2_5, after2_6, after2_7, after2_8, after2_9, after2_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (bodyC c (grid2.coords t) _ _ _ _ _ _ _ _ _ _ _ _ _ _ _ _ _ _ _ _ _ _  _ _ _ _ _ _ _ _ _ _  Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body obligation, at every point. -/
theorem obligationC (c : Dev nD) : BodyObligation (datC (F := F) W c) (defs₀ (F := F)) Variants.none () Set.univ := fun t => by
  rw [bigSep_W2, bigSep_W2, show defs₀ (F := F) .tc cfg2.body (cfg2.bodyArgs t (cfg2.slots t)) = bodyAt2 t from by
    unfold defs₀; rw [Defs.onTc_tc]]
  exact triple_restated (soundC W c t) rfl .rfl fun _ => .rfl

end Cert.KernelIdeal.Hand

end
-- ==== Proof.Run.lean ====
/- The whole program: its five items in order, the memory after each, and the run. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import proofs.«01_k».proof.Proof.RegionA
public import proofs.«01_k».proof.Proof.RegionB
public import proofs.«01_k».proof.Proof.RegionC
public import Idealize.ShloMosaic.Lib.Pipeline.RegionArraysS
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf afterRegion HostSeg RegionSeg Seg)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers at launch; after the first host operations; after each kernel; after the last host operations. -/
abbrev W0 (c : Dev nD) : Valuation τ sig (Elt F) := fun b => m (c, b)
def W1 (c : Dev nD) : Valuation τ sig (Elt F) := StableHlo.after hostOps0 (W0 m c)
def W2 (c : Dev nD) : Valuation τ sig (Elt F) := afterRegion (datA (W1 m) c) (W1 m c)
def W3 (c : Dev nD) : Valuation τ sig (Elt F) := afterRegion (datB (W2 m) c) (W2 m c)
def W4 (c : Dev nD) : Valuation τ sig (Elt F) := afterRegion (datC (W3 m) c) (W3 m c)
def W5 (c : Dev nD) : Valuation τ sig (Elt F) := StableHlo.after hostOps3 (W4 m c)

/-- The three kernels' data. -/
def pdats : (p : Fin 3) → (c : Dev nD) → Dat τ (Elt F) Unit ℕ (UR sig nD τ) ℕ (cfgs p) c
  | ⟨0, _⟩ => fun c => datA (W1 m) c
  | ⟨1, _⟩ => fun c => datB (W2 m) c
  | ⟨2, _⟩ => fun c => datC (W3 m) c

/-- One level, on the cores' own semaphores. -/
abbrev L : GSem nD τ sig → Finset Unit := fun g => if g.1.2 = .tc then {()} else ∅
abbrev lv : GSem nD τ sig → Unit → ℕ := fun _ _ => 0

/-- What rides beside the buffers between the items: nothing owed, and the generator's register. -/
abbrev rest (c : Dev nD) : sProp 𝕄 :=
  iprop((∃ Wd, owes (c : Thread nD τ) (0 : CellTallies nD τ sig Unit) Wd) ∗ (∃ r, prngReg c r) ∗ BI.emp)

theorem cut (p : Fin 3) : Pipeline.LevelCut (pcfgs (F := F)) adm () L lv p (fun _ => 0) (fun _ => 0) where
  hι _ _ _ := by simp [L]
  hιb _ _ _ := Nat.le_refl 0
  hD _ _ _ h := absurd h (Nat.lt_irrefl 0)

set_option backward.isDefEq.respectTransparency.types false in
/-- Kernel 0's item, entered from the buffers at `W1`. -/
def itemA : RegionSeg (pcfgs (F := F)) adm (pdats m) () defs₀ Variants.none L lv 0 :=
  RegionSeg.ofHeldIn (pcfgs (F := F)) adm (pdats m) () defs₀ Variants.none L lv 0 (fun _ => 0) (Pipeline.ucRefs τ sig)
    (fun c => iprop(∃ r, prngReg c r)) (fun c => iprop(∃ r, prngReg c r)) launch0.toP rfl
    (fun c => (obligationA (W1 m) c).loose) (fun _ _ => rfl) (fun _ => rfl) (fun c => (datA (W1 m) c).share_full fun _ => rfl)
    (fun _ => .rfl) (fun _ => .rfl) (fun _ => 0) (cut 0) (fun _ => BI.emp) (W1 m) (fun _ _ => rfl)

set_option backward.isDefEq.respectTransparency.types false in
/-- Kernel 1's item, entered from the buffers at `W2`. -/
def itemB : RegionSeg (pcfgs (F := F)) adm (pdats m) () defs₀ Variants.none L lv 1 :=
  RegionSeg.ofHeldIn (pcfgs (F := F)) adm (pdats m) () defs₀ Variants.none L lv 1 (fun _ => 0) (Pipeline.ucRefs τ sig)
    (fun c => iprop(∃ r, prngReg c r)) (fun c => iprop(∃ r, prngReg c r)) launch1.toP rfl
    (fun c => (obligationB (W2 m) c).loose) (fun _ _ => rfl) (fun _ => rfl) (fun c => (datB (W2 m) c).share_full fun _ => rfl)
    (fun _ => .rfl) (fun _ => .rfl) (fun _ => 0) (cut 1) (fun _ => BI.emp) (W2 m) (fun _ _ => rfl)

set_option backward.isDefEq.respectTransparency.types false in
/-- Kernel 2's item, entered from the buffers at `W3`. -/
def itemC : RegionSeg (pcfgs (F := F)) adm (pdats m) () defs₀ Variants.none L lv 2 :=
  RegionSeg.ofHeldIn (pcfgs (F := F)) adm (pdats m) () defs₀ Variants.none L lv 2 (fun _ => 0) (Pipeline.ucRefs τ sig)
    (fun c => iprop(∃ r, prngReg c r)) (fun c => iprop(∃ r, prngReg c r)) launch2.toP rfl
    (fun c => (obligationC (W3 m) c).loose) (fun _ _ => rfl) (fun _ => rfl) (fun c => (datC (W3 m) c).share_full fun _ => rfl)
    (fun _ => .rfl) (fun _ => .rfl) (fun _ => 0) (cut 2) (fun _ => BI.emp) (W3 m) (fun _ _ => rfl)

/-- The first and last items: the host operations before and after the kernels. -/
def hostA : HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) rest
def hostZ : HostSeg (Ix := Unit) (Name := ℕ) (U := UR sig nD τ) (Lvl := ℕ) (pcfgs (F := F)) defs₀ Variants.none L lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W4 m) rest

/-- The program's items. -/
abbrev items : List (Seg (pcfgs (F := F)) adm (pdats m) () defs₀ Variants.none L lv) :=
  [.host (hostA m), .region (itemA m), .region (itemB m), .region (itemC m), .host (hostZ m)]

set_option backward.isDefEq.respectTransparency.types false in
theorem enterA (c : Dev nD) : iprop(StableHlo.held (c : Thread nD τ) (Pipeline.ucRefs τ sig) (W1 m c) ∗ rest c) ⊢ (itemA m).pre c :=
  by unfold itemA; exact RegionSeg.ofHeldIn_pre (pcs := pcfgs (F := F)) (a := adm) (pdats := pdats m) (W := W1 m) (R := fun _ => BI.emp) (X := fun c => iprop(∃ r, prngReg c r)) (D := fun _ => 0) (p := 0) (Pipeline.arrRefs_sub_ucRefs _ launch0.win.arr_unscoped) c
set_option backward.isDefEq.respectTransparency.types false in
theorem leaveA (c : Dev nD) : (itemA m).post c ⊢ iprop(StableHlo.held (c : Thread nD τ) (Pipeline.ucRefs τ sig) (W2 m c) ∗ rest c) :=
  by unfold itemA W2; exact RegionSeg.ofHeldIn_post (p := 0) (Pipeline.arrRefs_sub_ucRefs _ launch0.win.arr_unscoped) c

set_option backward.isDefEq.respectTransparency.types false in
theorem enterB (c : Dev nD) : iprop(StableHlo.held (c : Thread nD τ) (Pipeline.ucRefs τ sig) (W2 m c) ∗ rest c) ⊢ (itemB m).pre c :=
  by unfold itemB; exact RegionSeg.ofHeldIn_pre (pcs := pcfgs (F := F)) (a := adm) (pdats := pdats m) (W := W2 m) (R := fun _ => BI.emp) (X := fun c => iprop(∃ r, prngReg c r)) (D := fun _ => 0) (p := 1) (Pipeline.arrRefs_sub_ucRefs _ launch1.win.arr_unscoped) c
set_option backward.isDefEq.respectTransparency.types false in
theorem leaveB (c : Dev nD) : (itemB m).post c ⊢ iprop(StableHlo.held (c : Thread nD τ) (Pipeline.ucRefs τ sig) (W3 m c) ∗ rest c) :=
  by unfold itemB W3; exact RegionSeg.ofHeldIn_post (p := 1) (Pipeline.arrRefs_sub_ucRefs _ launch1.win.arr_unscoped) c

set_option backward.isDefEq.respectTransparency.types false in
theorem enterC (c : Dev nD) : iprop(StableHlo.held (c : Thread nD τ) (Pipeline.ucRefs τ sig) (W3 m c) ∗ rest c) ⊢ (itemC m).pre c :=
  by unfold itemC; exact RegionSeg.ofHeldIn_pre (pcs := pcfgs (F := F)) (a := adm) (pdats := pdats m) (W := W3 m) (R := fun _ => BI.emp) (X := fun c => iprop(∃ r, prngReg c r)) (D := fun _ => 0) (p := 2) (Pipeline.arrRefs_sub_ucRefs _ launch2.win.arr_unscoped) c
set_option backward.isDefEq.respectTransparency.types false in
theorem leaveC (c : Dev nD) : (itemC m).post c ⊢ iprop(StableHlo.held (c : Thread nD τ) (Pipeline.ucRefs τ sig) (W4 m c) ∗ rest c) :=
  by unfold itemC W4; exact RegionSeg.ofHeldIn_post (p := 2) (Pipeline.arrRefs_sub_ucRefs _ launch2.win.arr_unscoped) c

set_option backward.isDefEq.respectTransparency.types false in
/-- The run: from any memory, every execution ends, with every buffer at `W5` and every counter at zero. -/
theorem run : θ_run defs (onTc (τ := τ) (main (F := F))) ⟨m, fun _ => 0, ρ⟩ (fun r =>
    (∀ c : Dev nD, ∀ b ∈ Pipeline.ucRefs τ sig, r.2.mem (c, b) = W5 m c b) ∧ r.2.sem = fun _ => 0) := by
  refine Pipeline.θ_run_regions_kit_dev_sems (pcfgs (F := F)) adm (pdats m) () cellOf_inj emb₁ defs₀ Variants.none L lv m ρ main
    (fun _ => items m)
    (fun c Q => by
      rewrite [main_chain c, Seg.run_eq_chain,
        show (items m).map Seg.prog = [
          StableHlo.seq hostOps0,
          Prog.lift (.customCall (Pipeline.entry 0) ()),
          Prog.lift (.customCall (Pipeline.entry 1) ()),
          Prog.lift (.customCall (Pipeline.entry 2) ()),
          StableHlo.seq hostOps3 ] from rfl]
      dsimp (config := { failIfUnchanged := false }) only
      exact .rfl)
    (fun c => by simp only [items, Seg.pipes_host, Seg.pipes_region, Seg.pipes_nil]; decide) (fun _ => 0)
    (fun g hg => if_neg hg) (fun _ => iprop(emp)) (initOf (Pipeline.cells cfgs cellOf_inj) (Pipeline.launchToks cfgs cellOf_inj)) ?_
    (T₀ := fun c => iprop(StableHlo.held (c : Thread nD τ) (Pipeline.ucRefs τ sig) (W0 m c) ∗ rest c))
    (Tₙ := fun c => StableHlo.held (c : Thread nD τ) (Pipeline.ucRefs τ sig) (W5 m c))
    (hch := fun c => ⟨.rfl, enterA m c, (leaveA m c).trans (enterB m c), (leaveB m c).trans (enterC m c), leaveC m c, ?_⟩)
    (hinit := ?_) (QY := fun c s => ∀ b ∈ Pipeline.ucRefs τ sig, s.mem (c, b) = W5 m c b)
    (hfin := fun c s' => ?_) (hQ := fun _ h hz => ⟨h, funext fun g => hz g (.inr (regions_no_unscoped g.2))⟩)
  · iintro Hu
    imodintro
    isplitl [Hu]
    · iapply (show (ownU _ : sProp 𝕄) ⊢ BI.own (emb₁ (initOf (Pipeline.cells cfgs cellOf_inj) (Pipeline.launchToks cfgs cellOf_inj))) from .rfl)
      iexact Hu
    · iapply (show (BI.emp : sProp 𝕄) ⊢ bigSep Finset.univ (fun _ : Dev nD => (BI.emp : sProp 𝕄)) from by rw [BI.bigSep_emp_const])
      iempintro
  · show iprop(StableHlo.held (c : Thread nD τ) (Pipeline.ucRefs τ sig) (W5 m c) ∗ rest c) ⊢ _
    iintro ⟨H, HO, -⟩
    isplitl [H] <;> iassumption
  · have hone : ∀ c : Dev nD, (iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp) : sProp 𝕄)
        ⊢ iprop(StableHlo.held (c : Thread nD τ) (Pipeline.ucRefs τ sig) (W0 m c) ∗ rest c) := fun c => by
      rw [← Pipeline.unscopedBufs_held (Ix := Unit) (Name := ℕ) (U := UR sig nD τ) (Lvl := ℕ) c (W0 m c)]
      iintro ⟨H, -, HO, -, Hp, -⟩
      isplitl [H]; · iexact H
      isplitl [HO]; · iexists _; iexact HO
      isplitl [Hp]; · iexists _; iexact Hp
      iempintro
    have hsplit : _ ⊢ (bigSep Finset.univ fun c : Dev nD => iprop(StableHlo.held (c : Thread nD τ) (Pipeline.ucRefs τ sig) (W0 m c) ∗ rest c) : sProp 𝕄) :=
      bigSep_mono (s := (Finset.univ : Finset (Dev nD))) fun c _ => hone c
    iintro ⟨H, -⟩
    imodintro
    iapply hsplit
    iexact H
  · unfold StableHlo.held
    iintro ⟨Hh, HSI⟩
    ihave Hr := (pointsTo_read_all (Pipeline.ucRefs τ sig) (fun b => ((c : Thread nD τ).1, b)) (W5 m c) s') $$ [Hh HSI]
    · isplitl [Hh] <;> iassumption
    icases Hr with ⟨%h, HSI⟩
    imodintro
    isplitr
    · ipureintro; exact h
    · iexact HSI

end Cert.KernelIdeal.Hand

end
-- ==== Proof.Twin.lean ====
/- The program at machine numbers is the same program: its run is the one already proved. -/
module

public import proofs.«01_k».proof.Proof.Gen.Kernel.Launch
public import proofs.«01_k».proof.Proof.Gen.Kernel.Regions
public import proofs.«01_k».proof.Proof.Run

@[expose] public section

set_option maxRecDepth 16384

noncomputable section

namespace Cert.Kernel.Hand

open Idealize.ShloMosaic Idealize.ShloMosaic.TcCoe Idealize.ShloMosaic.Tactic
open Idealize.SL Idealize.SL.RA Idealize.SL.BI Idealize.SL.Sem

variable {F : FTy → Type} [FloatOps F]

variable (m : (ℓ : Loc Cert.Kernel.nD Cert.Kernel.τ Cert.Kernel.sig) → Buf (Elt F) ℓ) (ρ : Dev Cert.Kernel.nD → PrngReg)

theorem main_eq : (θ_run (Cert.Kernel.defs (F := F)) (onTc (τ := Cert.Kernel.τ) (Cert.Kernel.main (F := F))) ⟨m, fun _ => 0, ρ⟩ (fun r =>
    (∀ c : Dev Cert.Kernel.nD, ∀ b ∈ Pipeline.ucRefs Cert.Kernel.τ Cert.Kernel.sig, r.2.mem (c, b) = Cert.KernelIdeal.Hand.W5 m c b) ∧ r.2.sem = fun _ => 0)) =
   (θ_run (Cert.KernelIdeal.defs (F := F)) (onTc (τ := Cert.KernelIdeal.τ) (Cert.KernelIdeal.main (F := F))) ⟨m, fun _ => 0, ρ⟩ (fun r =>
    (∀ c : Dev Cert.KernelIdeal.nD, ∀ b ∈ Pipeline.ucRefs Cert.KernelIdeal.τ Cert.KernelIdeal.sig, r.2.mem (c, b) = Cert.KernelIdeal.Hand.W5 m c b) ∧ r.2.sem = fun _ => 0)) := by
  sl_kernel_rfl

end Cert.Kernel.Hand

end
-- ==== Proof.Frames.lean ====
/- What the program leaves at its arguments, and the three "arguments unchanged" statements read off the runs. -/
module

public import proofs.«01_k».proof.Defs
public import proofs.«01_k».proof.Proof.Run
public import proofs.«01_k».proof.Proof.Twin
public import proofs.«01_k».proof.Proof.Gen.ReferenceIdeal.Run

@[expose] public section

noncomputable section

namespace Cert.KernelIdeal.Hand

open Idealize.ShloMosaic Idealize.ShloMosaic.TcCoe Idealize.SL.Sem Idealize.ShloMosaic.StableHlo Idealize.ShloMosaic.Pipeline
open Cert.KernelIdeal Cert.KernelIdeal.Gen

variable {F : FTy → Type} [FloatOps F]
variable (m : (ℓ : Loc nD τ sig) → Buf (Elt F) ℓ)

/-- A buffer the first host operations do not write keeps its contents through them. -/
theorem W1_keep (c : Dev nD) (r : Ref sig .tc) (h : r ∉ hostOps0_W) : W1 m c (Proc.devRef .tc r) = m (c, Proc.devRef .tc r) :=
  StableHlo.after_of_writes_sub hostOps0 _ hostOps0_writes h

/-- A buffer no output window of the first kernel writes keeps its contents through it. -/
theorem W2_keep (c : Dev nD) (r : Ref sig .tc) (h : ∀ w, arrRef cfg0.spec w = r → (cfg0.win w).isOut = false) :
    W2 m c (Proc.devRef .tc r) = W1 m c (Proc.devRef .tc r) :=
  afterRegion_keeps (datA (W1 m) c) (W1 m c) launch0.win.arr_inj (A_eqA (W1 m) c) r h

/-- The same of the second kernel. -/
theorem W3_keep (c : Dev nD) (r : Ref sig .tc) (h : ∀ w, arrRef cfg1.spec w = r → (cfg1.win w).isOut = false) :
    W3 m c (Proc.devRef .tc r) = W2 m c (Proc.devRef .tc r) :=
  afterRegion_keeps (datB (W2 m) c) (W2 m c) launch1.win.arr_inj (A_eqB (W2 m) c) r h

/-- The same of the third. -/
theorem W4_keep (c : Dev nD) (r : Ref sig .tc) (h : ∀ w, arrRef cfg2.spec w = r → (cfg2.win w).isOut = false) :
    W4 m c (Proc.devRef .tc r) = W3 m c (Proc.devRef .tc r) :=
  afterRegion_keeps (datC (W3 m) c) (W3 m c) launch2.win.arr_inj (A_eqC (W3 m) c) r h

/-- A buffer the last host operations do not write keeps its contents through them. -/
theorem W5_keep (c : Dev nD) (r : Ref sig .tc) (h : r ∉ hostOps3_W) : W5 m c (Proc.devRef .tc r) = W4 m c (Proc.devRef .tc r) :=
  StableHlo.after_of_writes_sub hostOps3 _ hostOps3_writes h

/-- A buffer that no item of the program writes is, at the end, what it was at the start. -/
theorem W5_same (c : Dev nD) (r : Ref sig .tc) (h0 : r ∉ hostOps0_W) (h3 : r ∉ hostOps3_W)
    (hA : ∀ w, arrRef cfg0.spec w = r → (cfg0.win w).isOut = false)
    (hB : ∀ w, arrRef cfg1.spec w = r → (cfg1.win w).isOut = false)
    (hC : ∀ w, arrRef cfg2.spec w = r → (cfg2.win w).isOut = false) :
    W5 m c (Proc.devRef .tc r) = m (c, Proc.devRef .tc r) := by
  rw [W5_keep m c r h3, W4_keep m c r hC, W3_keep m c r hB, W2_keep m c r hA, W1_keep m c r h0]

theorem W5_arg0 (c : Dev nD) : W5 m c (Proc.devRef .tc main_arg0) = m (c, Proc.devRef .tc main_arg0) :=
  W5_same m c main_arg0 (by decide) (by decide) (by decide) (by decide) (by decide)
theorem W5_arg1 (c : Dev nD) : W5 m c (Proc.devRef .tc main_arg1) = m (c, Proc.devRef .tc main_arg1) :=
  W5_same m c main_arg1 (by decide) (by decide) (by decide) (by decide) (by decide)
theorem W5_arg2 (c : Dev nD) : W5 m c (Proc.devRef .tc main_arg2) = m (c, Proc.devRef .tc main_arg2) :=
  W5_same m c main_arg2 (by decide) (by decide) (by decide) (by decide) (by decide)
theorem W5_arg3 (c : Dev nD) : W5 m c (Proc.devRef .tc main_arg3) = m (c, Proc.devRef .tc main_arg3) :=
  W5_same m c main_arg3 (by decide) (by decide) (by decide) (by decide) (by decide)
theorem W5_arg4 (c : Dev nD) : W5 m c (Proc.devRef .tc main_arg4) = m (c, Proc.devRef .tc main_arg4) :=
  W5_same m c main_arg4 (by decide) (by decide) (by decide) (by decide) (by decide)
theorem W5_arg5 (c : Dev nD) : W5 m c (Proc.devRef .tc main_arg5) = m (c, Proc.devRef .tc main_arg5) :=
  W5_same m c main_arg5 (by decide) (by decide) (by decide) (by decide) (by decide)
theorem W5_arg6 (c : Dev nD) : W5 m c (Proc.devRef .tc main_arg6) = m (c, Proc.devRef .tc main_arg6) :=
  W5_same m c main_arg6 (by decide) (by decide) (by decide) (by decide) (by decide)
theorem W5_arg7 (c : Dev nD) : W5 m c (Proc.devRef .tc main_arg7) = m (c, Proc.devRef .tc main_arg7) :=
  W5_same m c main_arg7 (by decide) (by decide) (by decide) (by decide) (by decide)

/-- The buffer `r` of the core is one the run's postcondition speaks of. -/
theorem mem_uc (r : Ref sig .tc) (h : ¬ (Proc.devRef .tc r : DevRef τ sig).isScoped) : (Proc.devRef .tc r : DevRef τ sig) ∈ ucRefs τ sig :=
  Finset.mem_filter.mpr ⟨StableHlo.devRef_mem_tcRefs r, h⟩

end Cert.KernelIdeal.Hand

namespace Cert.Hand

open Idealize.ShloMosaic Idealize.ShloMosaic.TcCoe Idealize.SL.Sem Idealize.ShloMosaic.StableHlo

/-- The kernel leaves its arguments, and every semaphore, as it found them. -/
theorem quiescent_Kernel : Cert.quiescent_Kernel (hKernel := Cert.Kernel.Gen.facts) := fun m g _ =>
  (θ_run Cert.Kernel.defs _ _).mono (fun r h => ⟨fun c =>
    ⟨(h.1 c _ (Cert.KernelIdeal.Hand.mem_uc Cert.KernelIdeal.main_arg0 (by decide))).trans (Cert.KernelIdeal.Hand.W5_arg0 m c), (h.1 c _ (Cert.KernelIdeal.Hand.mem_uc Cert.KernelIdeal.main_arg1 (by decide))).trans (Cert.KernelIdeal.Hand.W5_arg1 m c), (h.1 c _ (Cert.KernelIdeal.Hand.mem_uc Cert.KernelIdeal.main_arg2 (by decide))).trans (Cert.KernelIdeal.Hand.W5_arg2 m c), (h.1 c _ (Cert.KernelIdeal.Hand.mem_uc Cert.KernelIdeal.main_arg3 (by decide))).trans (Cert.KernelIdeal.Hand.W5_arg3 m c), (h.1 c _ (Cert.KernelIdeal.Hand.mem_uc Cert.KernelIdeal.main_arg4 (by decide))).trans (Cert.KernelIdeal.Hand.W5_arg4 m c), (h.1 c _ (Cert.KernelIdeal.Hand.mem_uc Cert.KernelIdeal.main_arg5 (by decide))).trans (Cert.KernelIdeal.Hand.W5_arg5 m c), (h.1 c _ (Cert.KernelIdeal.Hand.mem_uc Cert.KernelIdeal.main_arg6 (by decide))).trans (Cert.KernelIdeal.Hand.W5_arg6 m c), (h.1 c _ (Cert.KernelIdeal.Hand.mem_uc Cert.KernelIdeal.main_arg7 (by decide))).trans (Cert.KernelIdeal.Hand.W5_arg7 m c)⟩, h.2⟩) ((Cert.Kernel.Hand.main_eq m g).mpr (Cert.KernelIdeal.Hand.run m g))

/-- So does its idealized program. -/
theorem quiescent_KernelIdeal : Cert.quiescent_KernelIdeal (hKernelIdeal := Cert.KernelIdeal.Gen.facts) := fun m g _ =>
  (θ_run Cert.KernelIdeal.defs _ _).mono (fun r h => ⟨fun c =>
    ⟨(h.1 c _ (Cert.KernelIdeal.Hand.mem_uc Cert.KernelIdeal.main_arg0 (by decide))).trans (Cert.KernelIdeal.Hand.W5_arg0 m c), (h.1 c _ (Cert.KernelIdeal.Hand.mem_uc Cert.KernelIdeal.main_arg1 (by decide))).trans (Cert.KernelIdeal.Hand.W5_arg1 m c), (h.1 c _ (Cert.KernelIdeal.Hand.mem_uc Cert.KernelIdeal.main_arg2 (by decide))).trans (Cert.KernelIdeal.Hand.W5_arg2 m c), (h.1 c _ (Cert.KernelIdeal.Hand.mem_uc Cert.KernelIdeal.main_arg3 (by decide))).trans (Cert.KernelIdeal.Hand.W5_arg3 m c), (h.1 c _ (Cert.KernelIdeal.Hand.mem_uc Cert.KernelIdeal.main_arg4 (by decide))).trans (Cert.KernelIdeal.Hand.W5_arg4 m c), (h.1 c _ (Cert.KernelIdeal.Hand.mem_uc Cert.KernelIdeal.main_arg5 (by decide))).trans (Cert.KernelIdeal.Hand.W5_arg5 m c), (h.1 c _ (Cert.KernelIdeal.Hand.mem_uc Cert.KernelIdeal.main_arg6 (by decide))).trans (Cert.KernelIdeal.Hand.W5_arg6 m c), (h.1 c _ (Cert.KernelIdeal.Hand.mem_uc Cert.KernelIdeal.main_arg7 (by decide))).trans (Cert.KernelIdeal.Hand.W5_arg7 m c)⟩, h.2⟩) (Cert.KernelIdeal.Hand.run m g)

/-- And the reference. -/
theorem quiescent_ReferenceIdeal : Cert.quiescent_ReferenceIdeal (hReferenceIdeal := Cert.ReferenceIdeal.Gen.facts) :=
  fun m g _ => (θ_run Cert.ReferenceIdeal.defs _ _).mono (fun r h => ⟨fun c => (h c).2, Idealize.ShloMosaic.sem_eq_zero_of_no_sems (by decide) r.2⟩)
    (Cert.ReferenceIdeal.Value.run (F := Ideal) m g)

end Cert.Hand

end
-- ==== Proof.Column.lean ====
/- One pixel's column of 21 channel values, over the extended reals: the softmax, the logarithms that are summed over a
   superpixel, and one update. Everything here is about numbers; no program is mentioned. -/
module

public import Idealize.ShloMosaic.PureOps.Ideal
public import Idealize.ShloMosaic.PureOps.Ideal.Laws

@[expose] public section

noncomputable section

namespace Cert.Column

open Idealize.ShloMosaic

/-- A pixel's values, one per channel. -/
abbrev Col : Type := Fin 21 → EReal

/-- The small constant that keeps the logarithms finite: the rational that its float word is. -/
def eps : EReal := Ideal.ofBits .f32 0x3727C5AC#32

/-- 99, the number of the other superpixels. -/
def others : EReal := Ideal.ofBits .f32 0x42C60000#32

/-- The least extended real, as the float word for −∞ denotes it. -/
def least : EReal := Ideal.ofBits .f32 0xFF800000#32

/-- The largest entry, found by a fold that starts at −∞. -/
def peak (x : Col) : EReal := Finset.univ.fold max least x

/-- The softmax over the channels. -/
def soft (x : Col) : Col := fun c => Ideal.div (Ideal.exp (x c - peak x)) (∑ k, Ideal.exp (x k - peak x))

/-- One where the word `w` is the label `l`, zero elsewhere. -/
def tag (w : BitVec 32) (l : Nat) : EReal := if w = BitVec.ofNat 32 l then 1 else 0

/-- One where the two numbers are equal, zero elsewhere. -/
def hit (a b : EReal) : EReal := if a = b then 1 else 0

/-- The first logarithm. -/
def spTerm (s : Col) : Col := fun c => Ideal.log (s c + eps)

/-- A channel's value plus the column's largest, less the value where it is the largest itself. -/
def gap (s : Col) : Col := fun c => (s c + eps) + peak (fun k => s k + eps) - hit (s c) (peak s) * s c

/-- The second logarithm. -/
def ioTerm (s : Col) : Col := fun c => Ideal.log (gap s c + eps)

/-- The value that a label sum `p` gives against a denominator `d`. -/
def ratio (p d : EReal) : EReal := Ideal.exp (p - Ideal.log (d + eps))

/-- The value with its low weight, and its complement with the high one. -/
def part (p d l h : EReal) : EReal := l * ratio p d + h * (1 - ratio p d)

/-- The superpixel update of one pixel from the label sums `p` and `r`: three parts. -/
def update (lw : Fin 3 → Col) (hw : Fin 3 → EReal) (s p r : Col) : Col := fun c =>
  part (p c) (s c + hit (s c) 0) (lw 0 c) (hw 0) + part (r c) (gap s c + hit (gap s c) 0) (lw 1 c) (hw 1)
    + part (others * p c) (s c + hit (s c) 0) (lw 2 c) (hw 2)

/-- The pairwise message: the two filtered columns added, and the compatibility matrix applied. -/
def message (ws wb comp : Fin 21 → Fin 21 → EReal) (s : Col) : Col := fun c =>
  ∑ i, comp c i * ((∑ k, ws i k * s k) + ∑ k, wb i k * s k)

/-- One mean-field step of one pixel: the unaries less the message and the update. -/
def step (lw : Fin 3 → Col) (hw : Fin 3 → EReal) (ws wb comp : Fin 21 → Fin 21 → EReal) (u s p r : Col) : Col := fun c =>
  u c - message ws wb comp s c - update lw hw s p r c

/-- The same step as the kernel orders it: one matrix formed first, and everything subtracted at once. -/
def kstep (lw : Fin 3 → Col) (hw : Fin 3 → EReal) (ws wb comp : Fin 21 → Fin 21 → EReal) (u s p r : Col) : Col := fun c =>
  u c - ((∑ k, (∑ i, comp c i * (ws i k + wb i k)) * s k)
    + (lw 0 c * ratio (p c) (s c + hit (s c) 0) + hw 0 * (1 - ratio (p c) (s c + hit (s c) 0))
      + lw 1 c * ratio (r c) (gap s c + hit (gap s c) 0) + hw 1 * (1 - ratio (r c) (gap s c + hit (gap s c) 0))
      + lw 2 c * ratio (others * p c) (s c + hit (s c) 0) + hw 2 * (1 - ratio (others * p c) (s c + hit (s c) 0))))

end Cert.Column

end
-- ==== Proof.Consts.lean ====
/- The float constants as extended reals. -/
module

public import proofs.«01_k».proof.Proof.Column

@[expose] public section

noncomputable section

namespace Cert.Column

open Idealize.ShloMosaic

/-- The small constant is a positive number. -/
theorem eps_pos : ∃ r : ℝ, 0 < r ∧ eps = (r : EReal) := by
  refine ⟨(2 ^ 23 + 2606508 : ℕ) * (2 : ℝ) ^ (-40 : Int), by positivity, ?_⟩
  simp [eps, Ideal.ofBits, Ideal.ieee, -EReal.coe_mul]

/-- The count of the other labels is a number. -/
theorem others_num : ∃ r : ℝ, others = (r : EReal) := by
  refine ⟨99, ?_⟩
  simp [others, Ideal.ofBits, Ideal.ieee, -EReal.coe_mul]
  norm_num

theorem least_bot : least = ⊥ := by simp [least, Ideal.ofBits, Ideal.ieee]

/-- The float word for +∞. -/
theorem inf_top : Ideal.ofBits .f32 0x7F800000#32 = ⊤ := by simp [Ideal.ofBits, Ideal.ieee]

end Cert.Column
end
-- ==== Proof.Reals.lean ====
/- Which quantities of a step are real numbers, and which are positive ones. -/
module

public import proofs.«01_k».proof.Proof.Consts

@[expose] public section

noncomputable section

namespace Cert.Column

open Idealize.ShloMosaic

/-- A real number, not an infinity. -/
def Num (x : EReal) : Prop := ∃ r : ℝ, x = (r : EReal)

/-- A positive real number. -/
def Pos (x : EReal) : Prop := ∃ r : ℝ, 0 < r ∧ x = (r : EReal)

theorem Pos.num {x : EReal} (h : Pos x) : Num x := let ⟨r, _, e⟩ := h; ⟨r, e⟩

theorem num_iff (x : EReal) : Num x ↔ x ≠ ⊥ ∧ x ≠ ⊤ := by
  constructor
  · rintro ⟨r, rfl⟩; exact ⟨EReal.coe_ne_bot r, EReal.coe_ne_top r⟩
  · rintro ⟨hb, ht⟩; exact ⟨x.toReal, (EReal.coe_toReal ht hb).symm⟩

theorem Num.add {x y : EReal} : Num x → Num y → Num (x + y) := by
  rintro ⟨a, rfl⟩ ⟨b, rfl⟩; exact ⟨a + b, (EReal.coe_add a b).symm⟩

theorem Num.sub {x y : EReal} : Num x → Num y → Num (x - y) := by
  rintro ⟨a, rfl⟩ ⟨b, rfl⟩; exact ⟨a - b, (EReal.coe_sub a b).symm⟩

theorem Num.mul {x y : EReal} : Num x → Num y → Num (x * y) := by
  rintro ⟨a, rfl⟩ ⟨b, rfl⟩; exact ⟨a * b, (EReal.coe_mul a b).symm⟩

theorem num_zero : Num 0 := ⟨0, rfl⟩

theorem num_one : Num 1 := ⟨1, rfl⟩

theorem num_sum {ι : Type} (s : Finset ι) (f : ι → EReal) (h : ∀ i, Num (f i)) : Num (∑ i ∈ s, f i) := by
  classical
  induction s using Finset.induction_on with
  | empty => simpa using num_zero
  | insert a s ha ih => rw [Finset.sum_insert ha]; exact (h a).add ih

theorem Pos.add {x y : EReal} : Pos x → Pos y → Pos (x + y) := by
  rintro ⟨a, ha, rfl⟩ ⟨b, hb, rfl⟩; exact ⟨a + b, add_pos ha hb, (EReal.coe_add a b).symm⟩

theorem pos_sum (f : Fin 21 → EReal) (h : ∀ i, Pos (f i)) : Pos (∑ i, f i) := by
  choose r hr e using h
  have key : ∀ s : Finset (Fin 21), ∑ i ∈ s, f i = ((∑ i ∈ s, r i : ℝ) : EReal) := by
    classical
    intro s
    induction s using Finset.induction_on with
    | empty => simp
    | insert a s ha ih => rw [Finset.sum_insert ha, Finset.sum_insert ha, ih, e, EReal.coe_add]
  exact ⟨∑ i, r i, Finset.sum_pos (fun i _ => hr i) ⟨0, Finset.mem_univ _⟩, key _⟩

theorem pos_div {x y : EReal} : Pos x → Pos y → Pos (Ideal.div x y) := by
  rintro ⟨a, ha, rfl⟩ ⟨b, hb, rfl⟩
  refine ⟨a * (1 / b), by positivity, ?_⟩
  rw [Ideal.div_coe hb.ne', EReal.coe_mul]

theorem pos_exp {x : EReal} : Num x → Pos (Ideal.exp x) := by
  rintro ⟨a, rfl⟩; exact ⟨Real.exp a, Real.exp_pos a, Ideal.exp_coe a⟩

theorem num_log {x : EReal} : Pos x → Num (Ideal.log x) := by
  rintro ⟨a, ha, rfl⟩; exact ⟨Real.log a, by rw [Ideal.log_coe, if_neg (not_le.2 ha)]⟩

theorem eps_Pos : Pos eps := eps_pos

theorem le_peak (x : Col) (c : Fin 21) : x c ≤ peak x :=
  (Finset.le_fold_max (x c)).2 (Or.inr ⟨c, Finset.mem_univ c, le_rfl⟩)

/-- The largest of 21 real numbers is one. -/
theorem num_peak (x : Col) (h : ∀ c, Num (x c)) : Num (peak x) := by
  rw [num_iff]
  constructor
  · intro e
    have := le_peak x 0
    rw [e, le_bot_iff] at this
    exact ((num_iff _).1 (h 0)).1 this
  · refine (lt_top_iff_ne_top.1 ((Finset.fold_max_lt ⊤).2 ⟨?_, fun c _ => lt_top_iff_ne_top.2 ((num_iff _).1 (h c)).2⟩))
    rw [least_bot]
    exact bot_lt_top

/-- The softmax of real scores is positive. -/
theorem pos_soft (x : Col) (h : ∀ c, Num (x c)) (c : Fin 21) : Pos (soft x c) :=
  pos_div (pos_exp ((h c).sub (num_peak x h))) (pos_sum _ fun k => pos_exp ((h k).sub (num_peak x h)))

theorem hit_cases (a b : EReal) : hit a b = 0 ∨ hit a b = 1 := by
  by_cases h : a = b
  · exact Or.inr (if_pos h)
  · exact Or.inl (if_neg h)

theorem pos_safe {x : EReal} (h : Pos x) : Pos (x + hit x 0) := by
  rcases hit_cases x 0 with e | e
  · rw [e, add_zero]; exact h
  · rw [e]; exact h.add ⟨1, one_pos, rfl⟩

theorem num_spTerm (s : Col) (h : ∀ c, Pos (s c)) (c : Fin 21) : Num (spTerm s c) := num_log ((h c).add eps_Pos)

/-- The gap of positive values is positive. -/
theorem pos_gap (s : Col) (h : ∀ c, Pos (s c)) (c : Fin 21) : Pos (gap s c) := by
  have hp : ∀ k, Pos (s k + eps) := fun k => (h k).add eps_Pos
  obtain ⟨p, hpe⟩ := num_peak (fun k => s k + eps) fun k => (hp k).num
  obtain ⟨a, ha, ea⟩ := h c
  obtain ⟨e, he, ee⟩ := eps_Pos
  have hle : s c + eps ≤ peak fun k => s k + eps := le_peak (fun k => s k + eps) c
  unfold gap
  rw [hpe, ea, ee, ← EReal.coe_add, EReal.coe_le_coe_iff] at hle
  rw [hpe, ea, ee]
  rcases hit_cases (a : EReal) (peak s) with e' | e'
  · refine ⟨a + e + p - 0 * a, by linarith, ?_⟩
    rw [e']
    norm_cast
  · refine ⟨a + e + p - 1 * a, by linarith, ?_⟩
    rw [e']
    norm_cast

theorem num_ioTerm (s : Col) (h : ∀ c, Pos (s c)) (c : Fin 21) : Num (ioTerm s c) := num_log ((pos_gap s h c).add eps_Pos)

theorem num_tag (w : BitVec 32) (l : Nat) : Num (tag w l) := by
  unfold tag
  split
  · exact num_one
  · exact num_zero

theorem num_ratio {p d : EReal} (hp : Num p) (hd : Pos d) : Num (ratio p d) :=
  (pos_exp (hp.sub (num_log (hd.add eps_Pos)))).num

theorem num_part {p d l h : EReal} (hp : Num p) (hd : Pos d) (hl : Num l) (hh : Num h) : Num (part p d l h) :=
  (hl.mul (num_ratio hp hd)).add (hh.mul (num_one.sub (num_ratio hp hd)))

end Cert.Column
end
-- ==== Proof.Pre.lean ====
/- What the precondition says of each argument: the labels are numbers below 100, and the float arguments hold real numbers. -/
module

public import proofs.«01_k».proof.Pre_labels_in_range_inputs_finite
public import proofs.«01_k».proof.Proof.Reals
public import Idealize.ShloMosaic.Lib.ReduceAll
public import Idealize.ShloMosaic.Lib.Pointwise

@[expose] public section

set_option maxRecDepth 16384

noncomputable section

namespace Cert.Pre_labels_in_range_inputs_finite

open Idealize.ShloMosaic
open Cert.Column

/-- The shapes' side conditions hold. -/
instance facts : Cert.Pre_labels_in_range_inputs_finite.Facts where
  bcast_S_S1x384x512 := by decide
  reducesTo_S1x384x512_S_d0_1_2 := by decide
  h_S_ := by decide
  bcast_S_S1x384x512x21 := by decide
  reducesTo_S1x384x512x21_S_d0_1_2_3 := by decide
  bcast_S_S21x21 := by decide
  reducesTo_S21x21_S_d0_1 := by decide
  bcast_S_S3x21 := by decide
  reducesTo_S3x21_S_d0_1 := by decide
  bcast_S_S3 := by decide
  reducesTo_S3_S_d0 := by decide

instance : Subsingleton S_.Idx := ⟨fun a b => funext fun k => k.elim0⟩

theorem and_one {a b : BitVec 1} (h : IntOp.andi a b = 1#1) : a = 1#1 ∧ b = 1#1 := by
  revert a b
  decide

theorem bit_one {b : Bool} (h : BitVec.ofBool b = 1#1) : b = true := by
  cases b
  · exact absurd h (by decide)
  · rfl

/-- An entry strictly between the infinities is a real number. -/
theorem num_entry {s : Shape} (hb : S_.BroadcastsInDim s (![] : Fin 0 → Fin s.rank)) (x : FVec Ideal s .f32) (i : s.Idx)
    (h : andi (cmpf .ogt x (broadcastInDim s ![] hb (Host.negf (constant S_ .f32 0x7F800000#32))))
      (cmpf .olt x (broadcastInDim s ![] hb (constant S_ .f32 0x7F800000#32))) i = 1#1) : Num (x i) := by
  obtain ⟨h1, h2⟩ := and_one h
  have e1 : Ideal.cmp .ogt (x i) (-Ideal.ofBits .f32 0x7F800000#32) = 1#1 := h1
  have e2 : Ideal.cmp .olt (x i) (Ideal.ofBits .f32 0x7F800000#32) = 1#1 := h2
  rw [inf_top] at e1 e2
  rw [num_iff]
  have g1 := of_decide_eq_true (bit_one e1)
  have g2 := of_decide_eq_true (bit_one e2)
  exact ⟨fun e => absurd (e ▸ g1) (by simp), fun e => absurd (e ▸ g2) (by simp)⟩

/-- A word that is at least 0 and below 100 is one of the labels. -/
theorem label_word (w : BitVec 32) (h : IntOp.andi (IntOp.cmpi .sge w 0#32) (IntOp.cmpi .slt w 100#32) = 1#1) :
    w.toNat < 100 ∧ w = BitVec.ofNat 32 w.toNat := by
  obtain ⟨h1, h2⟩ := and_one h
  have e1 : (0#32).sle w = true := bit_one h1
  have e2 : w.slt 100#32 = true := bit_one h2
  refine ⟨?_, by simp⟩
  have g1 := BitVec.sle_iff_toInt_le.mp e1
  have g2 := BitVec.slt_iff_toInt_lt.mp e2
  rw [show (0#32).toInt = 0 from rfl, BitVec.toInt_eq_toNat_cond] at g1
  rw [show (100#32).toInt = 100 from rfl, BitVec.toInt_eq_toNat_cond] at g2
  have := w.isLt
  split at g1 <;> omega

variable [Facts]
open Facts

/-- The precondition, argument by argument. -/
theorem decode (x0 : FVec Ideal S1x384x512x21 .f32) (x1 : FVec Ideal S1x384x512x3 .f32) (x2 : IVec S1x384x512 32) (x3 x4 : FVec Ideal S21x21 .f32)
    (x5 : FVec Ideal S3x21 .f32) (x6 : FVec Ideal S3 .f32) (x7 : FVec Ideal S21x21 .f32)
    (h : fn (F := Ideal) x0 x1 x2 x3 x4 x5 x6 x7 = fun _ => 1#1) :
    (∀ i, (x2 i).toNat < 100 ∧ x2 i = BitVec.ofNat 32 (x2 i).toNat) ∧ (∀ i, Num (x0 i)) ∧ (∀ i, Num (x3 i)) ∧ (∀ i, Num (x4 i))
      ∧ (∀ i, Num (x5 i)) ∧ (∀ i, Num (x6 i)) ∧ ∀ i, Num (x7 i) := by
  have h0 := congrFun h ix0
  obtain ⟨h0, a7⟩ := and_one h0
  obtain ⟨h0, a6⟩ := and_one h0
  obtain ⟨h0, a5⟩ := and_one h0
  obtain ⟨h0, a4⟩ := and_one h0
  obtain ⟨h0, a3⟩ := and_one h0
  obtain ⟨a2, a0⟩ := and_one h0
  exact ⟨fun i => label_word _ (Host.reduce_andi_all _ _ _ _ _ a2 i), fun i => num_entry _ _ i (Host.reduce_andi_all _ _ _ _ _ a0 i),
    fun i => num_entry _ _ i (Host.reduce_andi_all _ _ _ _ _ a3 i), fun i => num_entry _ _ i (Host.reduce_andi_all _ _ _ _ _ a4 i),
    fun i => num_entry _ _ i (Host.reduce_andi_all _ _ _ _ _ a5 i), fun i => num_entry _ _ i (Host.reduce_andi_all _ _ _ _ _ a6 i),
    fun i => num_entry _ _ i (Host.reduce_andi_all _ _ _ _ _ a7 i)⟩

end Cert.Pre_labels_in_range_inputs_finite
end
-- ==== Proof.KernelRead.lean ====
/- What each block-level value of the three kernels is at one entry, over the extended reals: a function of one pixel's
   column, or a sum over the block's pixels. -/
module

public import proofs.«01_k».proof.Proof.BlockValues
public import proofs.«01_k».proof.Proof.Column
public import Idealize.ShloMosaic.Lib.Pointwise

@[expose] public section

set_option maxRecDepth 16384

noncomputable section

namespace Cert.KernelIdeal.Hand

open Idealize.ShloMosaic
open Cert.KernelIdeal Cert.KernelIdeal.Gen Cert.Column

/-- The pixel `j`'s column of a block. -/
def col (v : FVec Ideal S21x2048 .f32) (j : Fin 2048) : Col := fun c => v (ix2 c j)

/-- A truth bit widened to a word and read as a number. -/
theorem bit_value (b : Bool) : (FloatOps.sitofp (F := Ideal) .f32 (BitVec.setWidth 32 (BitVec.ofBool b)) : EReal) = if b then 1 else 0 := by
  show (((BitVec.setWidth 32 (BitVec.ofBool b)).toInt : ℝ) : EReal) = _
  cases b
  · rw [show (BitVec.setWidth 32 (BitVec.ofBool false)).toInt = 0 from by decide]; simp
  · rw [show (BitVec.setWidth 32 (BitVec.ofBool true)).toInt = 1 from by decide]; simp

theorem bit_hit (a b : EReal) :
    (FloatOps.sitofp (F := Ideal) .f32 (BitVec.setWidth 32 (BitVec.ofBool (decide (a = b)))) : EReal) = hit a b := by
  rw [bit_value]; simp [hit]

theorem bit_tag (l : Nat) (w : BitVec 32) :
    (FloatOps.sitofp (F := Ideal) .f32 (BitVec.setWidth 32 (IntOp.cmpi .eq (BitVec.ofNat 32 l) w)) : EReal) = tag w l := by
  rw [show IntOp.cmpi .eq (BitVec.ofNat 32 l) w = BitVec.ofBool (decide (w = BitVec.ofNat 32 l)) from
    congrArg BitVec.ofBool (by rw [Bool.eq_iff_iff, beq_iff_eq, decide_eq_true_iff]; exact eq_comm), bit_value]
  simp [tag]

/-! ### The first kernel -/

theorem k0_soft (v : FVec Ideal S21x2048 .f32) (c : Fin 21) (j : Fin 2048) :
    k0_pay3 (F := Ideal) v (ix2 c j) = soft (col v j) c := by
  pointwise [k0_pay3]; rfl

theorem k0_tag (g : Vec Ideal S1x1x2048 .i32) (l : Fin 128) (j : Fin 2048) :
    k0_pay4 (F := Ideal) g (ix2 l j) = tag (g (ix3 0 0 j)) l := by
  pointwise [k0_pay4]; exact bit_tag _ _

/-- The block's first contribution to the label `l`. -/
theorem k0_sp (v : FVec Ideal S21x2048 .f32) (g : Vec Ideal S1x1x2048 .i32) (c : Fin 21) (l : Fin 128) :
    k0_pay5 (F := Ideal) v g (ix2 c l) = ∑ j : Fin 2048, spTerm (soft (col v j)) c * tag (g (ix3 0 0 j)) l := by
  pointwise [k0_pay5]; simp only [k0_soft, k0_tag]; rfl

/-- The block's second contribution to the label `l`. -/
theorem k0_io (v : FVec Ideal S21x2048 .f32) (g : Vec Ideal S1x1x2048 .i32) (c : Fin 21) (l : Fin 128) :
    k0_pay6 (F := Ideal) v g (ix2 c l) = ∑ j : Fin 2048, ioTerm (soft (col v j)) c * tag (g (ix3 0 0 j)) l := by
  pointwise [k0_pay6]; simp only [k0_soft, k0_tag, bit_hit]; rfl

theorem k0_add1 (x y : FVec Ideal S21x128 .f32) (c : Fin 21) (l : Fin 128) :
    k0_pay1 (F := Ideal) x y (ix2 c l) = y (ix2 c l) + x (ix2 c l) := by
  pointwise [k0_pay1]

theorem k0_add2 (x y : FVec Ideal S21x128 .f32) (c : Fin 21) (l : Fin 128) :
    k0_pay2 (F := Ideal) x y (ix2 c l) = y (ix2 c l) + x (ix2 c l) := by
  pointwise [k0_pay2]

/-! ### The second kernel -/

/-- The label sums `b` of the label that the word `w` names. -/
def got (b : FVec Ideal S21x128 .f32) (w : BitVec 32) : Col := fun c => ∑ l : Fin 128, b (ix2 c l) * tag w l

/-- The low weights by part and channel, and the high weights by part, as the kernel holds them. -/
def lows (lw : FVec Ideal S21x3 .f32) : Fin 3 → Col := fun k c => lw (ix2 c k)
def highs (hw : FVec Ideal S1x3 .f32) : Fin 3 → EReal := fun k => hw (ix2 0 k)
def mat (x : FVec Ideal S21x21 .f32) : Fin 21 → Fin 21 → EReal := fun a b => x (ix2 a b)

theorem k1_soft (v : FVec Ideal S21x2048 .f32) (c : Fin 21) (j : Fin 2048) :
    k1_pay6 (F := Ideal) v (ix2 c j) = soft (col v j) c := by
  pointwise [k1_pay6, k1_pay5]; rfl

theorem k1_tag (g : Vec Ideal S1x1x2048 .i32) (l : Fin 128) (j : Fin 2048) :
    k1_pay7 (F := Ideal) g (ix2 l j) = tag (g (ix3 0 0 j)) l := by
  pointwise [k1_pay7]; exact bit_tag _ _

theorem k1_got10 (g : Vec Ideal S1x1x2048 .i32) (b : FVec Ideal S21x128 .f32) (c : Fin 21) (j : Fin 2048) :
    k1_pay10 (F := Ideal) g b (ix2 c j) = got b (g (ix3 0 0 j)) c := by
  pointwise [k1_pay10]; simp only [k1_tag]; rfl

theorem k1_got11 (g : Vec Ideal S1x1x2048 .i32) (b : FVec Ideal S21x128 .f32) (c : Fin 21) (j : Fin 2048) :
    k1_pay11 (F := Ideal) g b (ix2 c j) = got b (g (ix3 0 0 j)) c := by
  pointwise [k1_pay11]; simp only [k1_tag]; rfl

theorem k1_got12 (g : Vec Ideal S1x1x2048 .i32) (b : FVec Ideal S21x128 .f32) (c : Fin 21) (j : Fin 2048) :
    k1_pay12 (F := Ideal) g b (ix2 c j) = others * got b (g (ix3 0 0 j)) c := by
  pointwise [k1_pay12]; simp only [k1_got10]; rfl

theorem k1_ratio16 (u : FVec Ideal S21x2048 .f32) (p : FVec Ideal S21x2048 .f32) (c : Fin 21) (j : Fin 2048) :
    k1_pay16 (F := Ideal) (k1_pay6 u) p (ix2 c j) = ratio (p (ix2 c j)) (soft (col u j) c + hit (soft (col u j) c) 0) := by
  pointwise [k1_pay16, k1_pay14]; simp only [k1_soft, bit_hit]; rfl

theorem k1_ratio15 (u : FVec Ideal S21x2048 .f32) (p : FVec Ideal S21x2048 .f32) (c : Fin 21) (j : Fin 2048) :
    k1_pay15 (F := Ideal) (k1_pay6 u) p (k1_pay13 u) (ix2 c j)
      = ratio (p (ix2 c j)) (gap (soft (col u j)) c + hit (gap (soft (col u j)) c) 0) := by
  pointwise [k1_pay15, k1_pay13]; simp only [k1_soft, bit_hit]; rfl

/-- The new block at a pixel is the kernel's step of the pixel's column. -/
theorem newQ_apply (u : FVec Ideal S21x2048 .f32) (g : Vec Ideal S1x1x2048 .i32) (bsp bio : FVec Ideal S21x128 .f32)
    (lw : FVec Ideal S21x3 .f32) (hw : FVec Ideal S1x3 .f32) (ws wb comp : FVec Ideal S21x21 .f32) (c : Fin 21) (j : Fin 2048) :
    newQ (F := Ideal) u g bsp bio lw hw ws wb comp (ix2 c j)
      = kstep (lows lw) (highs hw) (mat ws) (mat wb) (mat comp) (col u j) (soft (col u j)) (got bsp (g (ix3 0 0 j)))
          (got bio (g (ix3 0 0 j))) c := by
  pointwise [newQ, k1_pay22, k1_pay20, k1_pay21, k1_pay17, k1_pay18, k1_pay19, k1_pay8, k1_pay9, k1_pay5, k1_pay14]
  simp only [k1_ratio15, k1_ratio16, k1_soft, k1_got10, k1_got11, k1_got12, bit_hit]
  rfl

theorem mid23_apply (u : FVec Ideal S21x2048 .f32) (g : Vec Ideal S1x1x2048 .i32) (bsp bio : FVec Ideal S21x128 .f32)
    (lw : FVec Ideal S21x3 .f32) (hw : FVec Ideal S1x3 .f32) (ws wb comp : FVec Ideal S21x21 .f32)
    (c : Fin 21) (j : Fin 2048) :
    mid23 (F := Ideal) u g bsp bio lw hw ws wb comp (ix2 c j) = soft (col (newQ (F := Ideal) u g bsp bio lw hw ws wb comp) j) c := by
  pointwise [mid23, k1_pay23]
  simp only [show ∀ x, k1_pay22 (F := Ideal) (k1_pay5 u) (k1_pay6 u) ws wb comp (k1_pay15 (k1_pay6 u) (k1_pay11 g bio) (k1_pay13 u)) (k1_pay16 (k1_pay6 u) (k1_pay12 g bsp))
    (k1_pay17 (k1_pay8 lw)) (k1_pay18 (k1_pay9 hw)) (k1_pay19 (k1_pay9 hw)) (k1_pay20 (k1_pay6 u) (k1_pay8 lw) (k1_pay9 hw) (k1_pay10 g bsp))
    (k1_pay21 (k1_pay6 u) (k1_pay8 lw) (k1_pay11 g bio) (k1_pay13 u)) (ix2 x j) = col (newQ (F := Ideal) u g bsp bio lw hw ws wb comp) j x from fun _ => rfl]
  rfl

/-- The block's first contribution to the label `l`, in the second kernel: from the updated block. -/
theorem spSum_apply (u : FVec Ideal S21x2048 .f32) (g : Vec Ideal S1x1x2048 .i32) (bsp bio : FVec Ideal S21x128 .f32)
    (lw : FVec Ideal S21x3 .f32) (hw : FVec Ideal S1x3 .f32) (ws wb comp : FVec Ideal S21x21 .f32)
    (c : Fin 21) (l : Fin 128) :
    spSum (F := Ideal) u g bsp bio lw hw ws wb comp (ix2 c l)
      = ∑ j : Fin 2048, spTerm (soft (col (newQ (F := Ideal) u g bsp bio lw hw ws wb comp) j)) c * tag (g (ix3 0 0 j)) l := by
  have h : ∀ (c : Fin 21) (j : Fin 2048), mid24 (F := Ideal) u g bsp bio lw hw ws wb comp (ix2 c j) = spTerm (soft (col (newQ (F := Ideal) u g bsp bio lw hw ws wb comp) j)) c := by
    intro c j
    unfold mid24
    pointwise [k1_pay24]
    exact congrArg (fun z => Ideal.log (z + eps)) (mid23_apply u g bsp bio lw hw ws wb comp c j)
  pointwise [spSum, k1_pay1]
  simp only [h, k1_tag]

/-- The block's second contribution to the label `l`, in the second kernel. -/
theorem ioSum_apply (u : FVec Ideal S21x2048 .f32) (g : Vec Ideal S1x1x2048 .i32) (bsp bio : FVec Ideal S21x128 .f32)
    (lw : FVec Ideal S21x3 .f32) (hw : FVec Ideal S1x3 .f32) (ws wb comp : FVec Ideal S21x21 .f32)
    (c : Fin 21) (l : Fin 128) :
    ioSum (F := Ideal) u g bsp bio lw hw ws wb comp (ix2 c l)
      = ∑ j : Fin 2048, ioTerm (soft (col (newQ (F := Ideal) u g bsp bio lw hw ws wb comp) j)) c * tag (g (ix3 0 0 j)) l := by
  have h25 : ∀ (c : Fin 21) (j : Fin 2048), mid25 (F := Ideal) u g bsp bio lw hw ws wb comp (ix2 c j)
      = hit (soft (col (newQ (F := Ideal) u g bsp bio lw hw ws wb comp) j) c) (peak (soft (col (newQ (F := Ideal) u g bsp bio lw hw ws wb comp) j))) := by
    intro c j
    have h := fun c => mid23_apply u g bsp bio lw hw ws wb comp c j
    unfold mid23 at h
    unfold mid25
    pointwise [k1_pay25]
    simp only [h, bit_hit]
    rfl
  have h26 : ∀ (c : Fin 21) (j : Fin 2048), mid26 (F := Ideal) u g bsp bio lw hw ws wb comp (ix2 c j)
      = (soft (col (newQ (F := Ideal) u g bsp bio lw hw ws wb comp) j) c + eps) + peak (fun k => soft (col (newQ (F := Ideal) u g bsp bio lw hw ws wb comp) j) k + eps) := by
    intro c j
    have h := fun c => mid23_apply u g bsp bio lw hw ws wb comp c j
    unfold mid23 at h
    unfold mid26
    pointwise [k1_pay26]
    simp only [h]
    rfl
  pointwise [ioSum, k1_pay2]
  simp only [h25, h26, mid23_apply, k1_tag]
  rfl

theorem spNext_apply (u : FVec Ideal S21x2048 .f32) (g : Vec Ideal S1x1x2048 .i32) (bsp bio : FVec Ideal S21x128 .f32)
    (lw : FVec Ideal S21x3 .f32) (hw : FVec Ideal S1x3 .f32) (ws wb comp : FVec Ideal S21x21 .f32)
    (y : FVec Ideal S21x128 .f32) (c : Fin 21) (l : Fin 128) :
    spNext (F := Ideal) u g bsp bio lw hw ws wb comp y (ix2 c l) = y (ix2 c l) + spSum (F := Ideal) u g bsp bio lw hw ws wb comp (ix2 c l) := by
  pointwise [spNext, k1_pay3, spSum]

theorem ioNext_apply (u : FVec Ideal S21x2048 .f32) (g : Vec Ideal S1x1x2048 .i32) (bsp bio : FVec Ideal S21x128 .f32)
    (lw : FVec Ideal S21x3 .f32) (hw : FVec Ideal S1x3 .f32) (ws wb comp : FVec Ideal S21x21 .f32)
    (y : FVec Ideal S21x128 .f32) (c : Fin 21) (l : Fin 128) :
    ioNext (F := Ideal) u g bsp bio lw hw ws wb comp y (ix2 c l) = y (ix2 c l) + ioSum (F := Ideal) u g bsp bio lw hw ws wb comp (ix2 c l) := by
  pointwise [ioNext, k1_pay4, ioSum]

/-! ### The third kernel -/

theorem k2_soft (v : FVec Ideal S21x2048 .f32) (c : Fin 21) (j : Fin 2048) :
    k2_pay2 (F := Ideal) v (ix2 c j) = soft (col v j) c := by
  pointwise [k2_pay2]; rfl

theorem k2_tag (g : Vec Ideal S1x1x2048 .i32) (l : Fin 128) (j : Fin 2048) :
    k2_pay3 (F := Ideal) g (ix2 l j) = tag (g (ix3 0 0 j)) l := by
  pointwise [k2_pay3]; exact bit_tag _ _

theorem k2_got6 (g : Vec Ideal S1x1x2048 .i32) (b : FVec Ideal S21x128 .f32) (c : Fin 21) (j : Fin 2048) :
    k2_pay6 (F := Ideal) g b (ix2 c j) = got b (g (ix3 0 0 j)) c := by
  pointwise [k2_pay6]; simp only [k2_tag]; rfl

theorem k2_got7 (g : Vec Ideal S1x1x2048 .i32) (b : FVec Ideal S21x128 .f32) (c : Fin 21) (j : Fin 2048) :
    k2_pay7 (F := Ideal) g b (ix2 c j) = got b (g (ix3 0 0 j)) c := by
  pointwise [k2_pay7]; simp only [k2_tag]; rfl

theorem k2_got8 (g : Vec Ideal S1x1x2048 .i32) (b : FVec Ideal S21x128 .f32) (c : Fin 21) (j : Fin 2048) :
    k2_pay8 (F := Ideal) g b (ix2 c j) = others * got b (g (ix3 0 0 j)) c := by
  pointwise [k2_pay8]; simp only [k2_got6]; rfl

theorem k2_ratio12 (u : FVec Ideal S21x2048 .f32) (p : FVec Ideal S21x2048 .f32) (c : Fin 21) (j : Fin 2048) :
    k2_pay12 (F := Ideal) (k2_pay2 u) p (ix2 c j) = ratio (p (ix2 c j)) (soft (col u j) c + hit (soft (col u j) c) 0) := by
  pointwise [k2_pay12, k2_pay10]; simp only [k2_soft, bit_hit]; rfl

theorem k2_ratio11 (u : FVec Ideal S21x2048 .f32) (p : FVec Ideal S21x2048 .f32) (c : Fin 21) (j : Fin 2048) :
    k2_pay11 (F := Ideal) (k2_pay2 u) p (k2_pay9 u) (ix2 c j)
      = ratio (p (ix2 c j)) (gap (soft (col u j)) c + hit (gap (soft (col u j)) c) 0) := by
  pointwise [k2_pay11, k2_pay9]; simp only [k2_soft, bit_hit]; rfl

/-- The result block at a pixel: the unaries' column less the kernel's message and update of the column of `q`. -/
theorem outQ_apply (u q : FVec Ideal S21x2048 .f32) (g : Vec Ideal S1x1x2048 .i32) (bsp bio : FVec Ideal S21x128 .f32)
    (lw : FVec Ideal S21x3 .f32) (hw : FVec Ideal S1x3 .f32) (ws wb comp : FVec Ideal S21x21 .f32) (c : Fin 21) (j : Fin 2048) :
    outQ (F := Ideal) u q g bsp bio lw hw ws wb comp (ix2 c j)
      = kstep (lows lw) (highs hw) (mat ws) (mat wb) (mat comp) (col u j) (soft (col q j)) (got bsp (g (ix3 0 0 j)))
          (got bio (g (ix3 0 0 j))) c := by
  pointwise [outQ, k2_pay1, k2_pay16, k2_pay17, k2_pay13, k2_pay14, k2_pay15, k2_pay4, k2_pay5, k2_pay10]
  simp only [k2_ratio11, k2_ratio12, k2_soft, k2_got6, k2_got7, k2_got8, bit_hit]
  rfl

end Cert.KernelIdeal.Hand

end
-- ==== Proof.Pixels.lean ====
/- The pixels of the picture, flat: 196608 of them, in 96 blocks of 2048. -/
module

public import proofs.«01_k».proof.Proof.KernelRead

@[expose] public section

noncomputable section

namespace Cert.KernelIdeal.Hand

open Idealize.ShloMosaic
open Cert.KernelIdeal Cert.Column

/-- A pixel's place in the flat picture. -/
abbrev Px := Fin 196608

/-- Pixel `j` of block `t`. -/
def px (t : Fin 96) (j : Fin 2048) : Px := ⟨2048 * t.val + j.val, by have := t.isLt; have := j.isLt; omega⟩

/-- The column of pixel `p` in a channels-by-pixels array. -/
def pcol (v : FVec Ideal S21x196608 .f32) (p : Px) : Col := fun c => v (ix2 c p)

/-- The label of pixel `p` in the array of label blocks. -/
def lab (g : IVec S96x1x2048 32) (p : Px) : BitVec 32 :=
  g (ix3 ⟨p.val / 2048, by have := p.isLt; omega⟩ 0 ⟨p.val % 2048, Nat.mod_lt _ (by decide)⟩)

theorem lab_px (g : IVec S96x1x2048 32) (t : Fin 96) (j : Fin 2048) : lab g (px t j) = g (ix3 t 0 j) := by
  have ht := t.isLt
  have hj := j.isLt
  have h1 : (px t j).val / 2048 = t.val := by simp only [px]; omega
  have h2 : (px t j).val % 2048 = j.val := by simp only [px]; omega
  unfold lab
  congr 2 <;> exact Fin.ext (by assumption)

/-- A sum over the pixels is the sum over the blocks of the sums within each. -/
theorem sum_px (f : Px → EReal) : ∑ t, ∑ j, f (px t j) = ∑ p, f p := by
  rw [← Fintype.sum_prod_type' (fun t j => f (px t j))]
  refine Fintype.sum_equiv (finProdFinEquiv (m := 96) (n := 2048)) _ _ fun x => ?_
  congr 1
  exact Fin.ext (by simp only [px, finProdFinEquiv, Equiv.coe_fn_mk]; omega)

/-- A running total that starts with the first term and gains one term a step ends as the sum of all the terms. -/
theorem running_total {N : Nat} (f : (n : Nat) → n < N → EReal) (g : Fin N → EReal) (h0 : ∀ h, f 0 h = g ⟨0, h⟩)
    (hs : ∀ n h, f (n + 1) h = f n (Nat.lt_of_succ_lt h) + g ⟨n + 1, h⟩) (n : Nat) (hn : n < N) (hlast : n + 1 = N) :
    f n hn = ∑ t, g t := by
  have key : ∀ k (hk : k < N), f k hk = ∑ i ∈ Finset.range (k + 1), if h : i < N then g ⟨i, h⟩ else 0 := by
    intro k
    induction k with
    | zero => intro hk; rw [h0]; simp [hk]
    | succ k ih => intro hk; rw [hs, ih, Finset.sum_range_succ _ (k + 1), dif_pos hk]
  rw [key, hlast, Finset.sum_range]
  exact Finset.sum_congr rfl fun t _ => dif_pos t.isLt

/-- A term of every pixel's column and label, summed over the pixels labelled `l`. -/
def tally (f : Col → Col) (u : Px → Col) (g : Px → BitVec 32) (k : Fin 21) (l : Nat) : EReal := ∑ p, f (u p) k * tag (g p) l

/-- The part of it that the pixels of block `t` make. -/
def inBlock (f : Col → Col) (u : Px → Col) (g : Px → BitVec 32) (k : Fin 21) (l : Nat) (t : Fin 96) : EReal :=
  ∑ j, f (u (px t j)) k * tag (g (px t j)) l

theorem tally_blocks (f : Col → Col) (u : Px → Col) (g : Px → BitVec 32) (k : Fin 21) (l : Nat) :
    tally f u g k l = ∑ t, inBlock f u g k l t := (sum_px fun p => f (u p) k * tag (g p) l).symm

end Cert.KernelIdeal.Hand
end
-- ==== Proof.Algebra.lean ====
/- The two orders of one step agree on real numbers. -/
module

public import proofs.«01_k».proof.Proof.Reals

@[expose] public section

noncomputable section

namespace Cert.Column

open Idealize.ShloMosaic

theorem coe_sum' {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Everything a step reads is a real number, and the probabilities are positive. -/
structure Reads (lw : Fin 3 → Col) (hw : Fin 3 → EReal) (ws wb comp : Fin 21 → Fin 21 → EReal) (u s p r : Col) : Prop where
  lw : ∀ k c, Num (lw k c)
  hw : ∀ k, Num (hw k)
  ws : ∀ a b, Num (ws a b)
  wb : ∀ a b, Num (wb a b)
  comp : ∀ a b, Num (comp a b)
  u : ∀ c, Num (u c)
  s : ∀ c, Pos (s c)
  p : ∀ c, Num (p c)
  r : ∀ c, Num (r c)

variable {lw : Fin 3 → Col} {hw : Fin 3 → EReal} {ws wb comp : Fin 21 → Fin 21 → EReal} {u s p r : Col}

theorem num_message (H : Reads lw hw ws wb comp u s p r) (c : Fin 21) : Num (message ws wb comp s c) :=
  num_sum _ _ fun i => (H.comp c i).mul ((num_sum _ _ fun k => (H.ws i k).mul (H.s k).num).add (num_sum _ _ fun k => (H.wb i k).mul (H.s k).num))

theorem num_others : Num others := others_num

/-- A step from real numbers ends in real numbers. -/
theorem num_step (H : Reads lw hw ws wb comp u s p r) (c : Fin 21) : Num (step lw hw ws wb comp u s p r c) :=
  ((H.u c).sub (num_message H c)).sub
    (((num_part (H.p c) (pos_safe (H.s c)) (H.lw 0 c) (H.hw 0)).add (num_part (H.r c) (pos_safe (pos_gap s H.s c)) (H.lw 1 c) (H.hw 1))).add
      (num_part (num_others.mul (H.p c)) (pos_safe (H.s c)) (H.lw 2 c) (H.hw 2)))

/-- The matrices multiplied first, or applied one after the other. -/
theorem message_eq (H : Reads lw hw ws wb comp u s p r) (c : Fin 21) :
    ∑ k, (∑ i, comp c i * (ws i k + wb i k)) * s k = message ws wb comp s c := by
  choose A hA using H.comp
  choose B hB using H.ws
  choose D hD using H.wb
  choose S hS using fun c => (H.s c).num
  unfold message
  simp only [hA, hB, hD, hS, ← EReal.coe_add, ← EReal.coe_mul, ← coe_sum']
  congr 1
  simp only [Finset.sum_mul, Finset.mul_sum, mul_add, add_mul, Finset.sum_add_distrib]
  rw [Finset.sum_comm, Finset.sum_comm (f := fun k i => A c i * D i k * S k)]
  simp only [mul_assoc]

/-- The kernel's order of a step and the reference's agree. -/
theorem kstep_eq (H : Reads lw hw ws wb comp u s p r) : kstep lw hw ws wb comp u s p r = step lw hw ws wb comp u s p r := by
  funext c
  unfold kstep step update part
  rw [message_eq H c]
  obtain ⟨M, hM⟩ := num_message H c
  obtain ⟨U, hU⟩ := H.u c
  obtain ⟨R0, h0⟩ := num_ratio (H.p c) (pos_safe (H.s c))
  obtain ⟨R1, h1⟩ := num_ratio (H.r c) (pos_safe (pos_gap s H.s c))
  obtain ⟨R2, h2⟩ := num_ratio (num_others.mul (H.p c)) (pos_safe (H.s c))
  obtain ⟨L0, l0⟩ := H.lw 0 c
  obtain ⟨L1, l1⟩ := H.lw 1 c
  obtain ⟨L2, l2⟩ := H.lw 2 c
  obtain ⟨G0, g0⟩ := H.hw 0
  obtain ⟨G1, g1⟩ := H.hw 1
  obtain ⟨G2, g2⟩ := H.hw 2
  rw [hM, hU, h0, h1, h2, l0, l1, l2, g0, g1, g2]
  simp only [← EReal.coe_one, ← EReal.coe_add, ← EReal.coe_mul, ← EReal.coe_sub]
  congr 1
  ring

end Cert.Column
end
-- ==== Proof.Mean.lean ====
/- One round over all pixels, in the numbers alone: every pixel's step with the label sums of its own label. Two rounds are the answer. -/
module

public import proofs.«01_k».proof.Proof.Pixels
public import proofs.«01_k».proof.Proof.Algebra

@[expose] public section

set_option maxRecDepth 16384

noncomputable section

namespace Cert.KernelIdeal.Hand

open Idealize.ShloMosaic
open Cert.KernelIdeal Cert.KernelIdeal.Gen Cert.Column

/-- The weights of a round. -/
structure Weights where
  lw : Fin 3 → Col
  hw : Fin 3 → EReal
  ws : Fin 21 → Fin 21 → EReal
  wb : Fin 21 → Fin 21 → EReal
  comp : Fin 21 → Fin 21 → EReal

/-- They are all real numbers. -/
structure Weights.Sound (P : Weights) : Prop where
  lw : ∀ k c, Num (P.lw k c)
  hw : ∀ k, Num (P.hw k)
  ws : ∀ a b, Num (P.ws a b)
  wb : ∀ a b, Num (P.wb a b)
  comp : ∀ a b, Num (P.comp a b)

/-- The two values that are summed over a superpixel, from a pixel's scores. -/
abbrev spOf (x : Col) : Col := spTerm (soft x)
abbrev ioOf (x : Col) : Col := ioTerm (soft x)

/-- One round: from the unaries `u`, the scores `q` and the labels `g`, every pixel's new scores. -/
def turn (P : Weights) (u q : Px → Col) (g : Px → BitVec 32) (p : Px) : Col :=
  step P.lw P.hw P.ws P.wb P.comp (u p) (soft (q p)) (fun c => tally spOf q g c (g p).toNat) (fun c => tally ioOf q g c (g p).toNat)

/-- A label sum of real numbers is one. -/
theorem num_tally (f : Col → Col) (q : Px → Col) (g : Px → BitVec 32) (k : Fin 21) (l : Nat) (h : ∀ p, Num (f (q p) k)) :
    Num (tally f q g k l) := num_sum _ _ fun p => (h p).mul (num_tag _ _)

variable {P : Weights} {u q : Px → Col}

/-- What a pixel's step reads, when the weights, the unaries and the scores are real numbers. -/
theorem turn_reads (H : P.Sound) (hu : ∀ p c, Num (u p c)) (hq : ∀ p c, Num (q p c)) (g : Px → BitVec 32) (p : Px) :
    Reads P.lw P.hw P.ws P.wb P.comp (u p) (soft (q p)) (fun c => tally spOf q g c (g p).toNat) (fun c => tally ioOf q g c (g p).toNat) where
  lw := H.lw
  hw := H.hw
  ws := H.ws
  wb := H.wb
  comp := H.comp
  u := hu p
  s := pos_soft _ (hq p)
  p := fun c => num_tally _ _ _ _ _ fun i => num_spTerm _ (pos_soft _ (hq i)) c
  r := fun c => num_tally _ _ _ _ _ fun i => num_ioTerm _ (pos_soft _ (hq i)) c

/-- A round from real numbers ends in real numbers. -/
theorem num_turn (H : P.Sound) (hu : ∀ p c, Num (u p c)) (hq : ∀ p c, Num (q p c)) (g : Px → BitVec 32) (p : Px) (c : Fin 21) :
    Num (turn P u q g p c) := num_step (turn_reads H hu hq g p) c

/-- The kernel's way of picking a pixel's label sum out of the table: the product with the label's tags. -/
theorem got_tally (b : FVec Ideal S21x128 .f32) (w : BitVec 32) (f : Col → Col) (g : Px → BitVec 32)
    (hb : ∀ k (l : Fin 128), b (ix2 k l) = tally f q g k l.val) (hw : w.toNat < 100) : got b w = fun c => tally f q g c w.toNat := by
  funext c
  unfold got
  rw [Finset.sum_eq_single (⟨w.toNat, by omega⟩ : Fin 128)]
  · rw [hb, show tag w w.toNat = 1 from if_pos (by simp), mul_one]
  · intro l _ hl
    rw [show tag w l.val = 0 from if_neg fun e => hl (Fin.ext ?_), mul_zero]
    have hl := l.isLt
    have := congrArg BitVec.toNat e
    rw [BitVec.toNat_ofNat, Nat.mod_eq_of_lt (by omega)] at this
    exact this.symm
  · exact fun h => absurd (Finset.mem_univ _) h

/-- The kernel's step is the round's, at a pixel whose label is one of the 100. -/
theorem kstep_turn (H : P.Sound) (hu : ∀ p c, Num (u p c)) (hq : ∀ p c, Num (q p c)) (g : Px → BitVec 32) (p : Px) (hg : (g p).toNat < 100)
    (b d : FVec Ideal S21x128 .f32) (hb : ∀ k (l : Fin 128), b (ix2 k l) = tally spOf q g k l.val)
    (hd : ∀ k (l : Fin 128), d (ix2 k l) = tally ioOf q g k l.val) :
    kstep P.lw P.hw P.ws P.wb P.comp (u p) (soft (q p)) (got b (g p)) (got d (g p)) = turn P u q g p := by
  rw [got_tally b (g p) spOf g hb hg, got_tally d (g p) ioOf g hd hg]
  exact kstep_eq (turn_reads H hu hq g p)

/-- The flat place of the pixel at row `h` and place `w`. -/
def place (h : Fin 384) (w : Fin 512) : Px := ⟨h.val * 512 + w.val, by have := h.isLt; have := w.isLt; omega⟩

/-- The scores, the labels and the weights in the program's arguments. -/
def scores (x : FVec Ideal S1x384x512x21 .f32) : Px → Col := fun p c =>
  x (ix4 0 ⟨p.val / 512, by have := p.isLt; omega⟩ ⟨p.val % 512, Nat.mod_lt _ (by decide)⟩ c)
def labels (x : IVec S1x384x512 32) : Px → BitVec 32 := fun p =>
  x (ix3 0 ⟨p.val / 512, by have := p.isLt; omega⟩ ⟨p.val % 512, Nat.mod_lt _ (by decide)⟩)
def weights (x3 x4 : FVec Ideal S21x21 .f32) (x5 : FVec Ideal S3x21 .f32) (x6 : FVec Ideal S3 .f32) (x7 : FVec Ideal S21x21 .f32) : Weights where
  lw := fun k c => x5 (ix2 k c)
  hw := fun k => x6 (ix1 k)
  ws := fun a b => x3 (ix2 a b)
  wb := fun a b => x4 (ix2 a b)
  comp := fun a b => x7 (ix2 a b)

/-- The answer: two rounds, the first from the unaries themselves. -/
def answer (P : Weights) (u : Px → Col) (g : Px → BitVec 32) : Px → Col := turn P u (turn P u u g) g

end Cert.KernelIdeal.Hand
end
-- ==== Proof.Entry.lean ====
/- The buffers that the kernels read, after the host operations before them: the arguments, rearranged; and the last host operations. -/
module

public import proofs.«01_k».proof.Proof.Frames
public import proofs.«01_k».proof.Proof.KernelRead
public import proofs.«01_k».proof.Proof.Mean
public import Idealize.ShloMosaic.Lib.StableHlo.ReadAt

@[expose] public section

set_option maxRecDepth 16384

noncomputable section

namespace Cert.KernelIdeal.Hand

open Idealize.ShloMosaic Idealize.ShloMosaic.TcCoe
open Cert.KernelIdeal Cert.KernelIdeal.Gen Cert.Column

variable (m : (ℓ : Loc nD τ sig) → Buf (Elt Ideal) ℓ) (c : Dev nD)

/-- The weights, the unaries and the labels that the program's arguments hold. -/
abbrev argWeights : Weights :=
  weights (m (c, Proc.devRef .tc main_arg3)) (m (c, Proc.devRef .tc main_arg4)) (m (c, Proc.devRef .tc main_arg5))
    (m (c, Proc.devRef .tc main_arg6)) (m (c, Proc.devRef .tc main_arg7))
abbrev argScores : Px → Col := scores (m (c, Proc.devRef .tc main_arg0))
abbrev argLabels : Px → BitVec 32 := labels (m (c, Proc.devRef .tc main_arg2))

/-- The buffers `V` hold, where the kernels read them, what the arguments hold. -/
structure Found (V : Valuation τ sig (Elt Ideal)) : Prop where
  lw : lows (V (Proc.devRef .tc main_call0_v0)) = (argWeights m c).lw
  hw : highs (V (Proc.devRef .tc main_call0_v1)) = (argWeights m c).hw
  ws : mat (V (Proc.devRef .tc main_arg3)) = (argWeights m c).ws
  wb : mat (V (Proc.devRef .tc main_arg4)) = (argWeights m c).wb
  comp : mat (V (Proc.devRef .tc main_arg7)) = (argWeights m c).comp
  u : pcol (V (Proc.devRef .tc main_call0_v4)) = argScores m c
  g : lab (V (Proc.devRef .tc main_call0_v6)) = argLabels m c

theorem W1_v0 (k : Fin 21) (j : Fin 3) : (W1 m c (Proc.devRef .tc main_call0_v0) : FVec Ideal S21x3 .f32) (ix2 k j)
    = (m (c, Proc.devRef .tc main_arg5) : FVec Ideal S3x21 .f32) (ix2 j k) := by
  unfold W1
  after_reads_at

theorem W1_v1 (j : Fin 3) : (W1 m c (Proc.devRef .tc main_call0_v1) : FVec Ideal S1x3 .f32) (ix2 0 j)
    = (m (c, Proc.devRef .tc main_arg6) : FVec Ideal S3 .f32) (ix1 j) := by
  unfold W1
  after_reads_at

theorem W1_v4 (k : Fin 21) (p : Px) : (W1 m c (Proc.devRef .tc main_call0_v4) : FVec Ideal S21x196608 .f32) (ix2 k p)
    = argScores m c p k := by
  unfold W1 argScores scores
  after_reads_at

theorem W1_v6 (a : Fin 96) (b : Fin 2048) (p : Px) (hp : p.val = 2048 * a.val + b.val) :
    (W1 m c (Proc.devRef .tc main_call0_v6) : IVec S96x1x2048 32) (ix3 a 0 b) = argLabels m c p := by
  unfold W1 argLabels labels
  after_reads_at
  have ha := a.isLt
  have hb := b.isLt
  exact congrArg₂ (fun x y => (m (c, Proc.devRef .tc main_arg2) : IVec S1x384x512 32) (ix3 0 x y))
    (Fin.ext (show a.val * 4 + b.val / 512 = p.val / 512 by omega)) (Fin.ext (show b.val % 512 = p.val % 512 by omega))

/-- The first kernel finds the arguments, rearranged. -/
theorem found1 : Found m c (W1 m c) where
  lw := funext fun j => funext fun k => W1_v0 m c k j
  hw := funext fun j => W1_v1 m c j
  ws := congrArg mat (W1_keep m c main_arg3 (by decide))
  wb := congrArg mat (W1_keep m c main_arg4 (by decide))
  comp := congrArg mat (W1_keep m c main_arg7 (by decide))
  u := funext fun p => funext fun k => W1_v4 m c k p
  g := funext fun p => W1_v6 m c _ _ p (Nat.div_add_mod p.val 2048).symm

/-- So does the second, -/
theorem found2 : Found m c (W2 m c) where
  lw := (congrArg lows (W2_keep m c main_call0_v0 (by decide))).trans (found1 m c).lw
  hw := (congrArg highs (W2_keep m c main_call0_v1 (by decide))).trans (found1 m c).hw
  ws := (congrArg mat (W2_keep m c main_arg3 (by decide))).trans (found1 m c).ws
  wb := (congrArg mat (W2_keep m c main_arg4 (by decide))).trans (found1 m c).wb
  comp := (congrArg mat (W2_keep m c main_arg7 (by decide))).trans (found1 m c).comp
  u := (congrArg pcol (W2_keep m c main_call0_v4 (by decide))).trans (found1 m c).u
  g := (congrArg lab (W2_keep m c main_call0_v6 (by decide))).trans (found1 m c).g

/-- and the third. -/
theorem found3 : Found m c (W3 m c) where
  lw := (congrArg lows (W3_keep m c main_call0_v0 (by decide))).trans (found2 m c).lw
  hw := (congrArg highs (W3_keep m c main_call0_v1 (by decide))).trans (found2 m c).hw
  ws := (congrArg mat (W3_keep m c main_arg3 (by decide))).trans (found2 m c).ws
  wb := (congrArg mat (W3_keep m c main_arg4 (by decide))).trans (found2 m c).wb
  comp := (congrArg mat (W3_keep m c main_arg7 (by decide))).trans (found2 m c).comp
  u := (congrArg pcol (W3_keep m c main_call0_v4 (by decide))).trans (found2 m c).u
  g := (congrArg lab (W3_keep m c main_call0_v6 (by decide))).trans (found2 m c).g

/-- The result is the third kernel's array, with a leading axis and its pixels by row and place. -/
theorem W5_v0 (k : Fin 21) (h : Fin 384) (w : Fin 512) : (W5 m c (Proc.devRef .tc main_v0) : FVec Ideal S1x21x384x512 .f32) (ix4 0 k h w)
    = (W4 m c (Proc.devRef .tc main_call0_v9) : FVec Ideal S21x196608 .f32) (ix2 k (place h w)) := by
  unfold W5 place
  after_reads_at

end Cert.KernelIdeal.Hand
end
-- ==== Proof.ArraysA.lean ====
/- The first kernel's arrays: its blocks read at an entry, and its two tables of label sums. -/
module

public import proofs.«01_k».proof.Proof.Run
public import proofs.«01_k».proof.Proof.Pixels
public import Idealize.ShloMosaic.Lib.Pipeline.ValueKit

@[expose] public section

set_option maxRecDepth 16384

noncomputable section

namespace Cert.KernelIdeal.Hand

open Idealize.ShloMosaic Idealize.ShloMosaic.TcCoe
open Idealize.ShloMosaic.Pipeline (Dat Cfg Window afterRegion)
open Cert.KernelIdeal Cert.KernelIdeal.Gen Cert.Column

variable (W : Dev nD → Valuation τ sig (Elt Ideal)) (c : Dev nD)

theorem indexA : ∀ t : Fin cfg0.N, win0_0.index t = ![0, t.val] ∧ win0_1.index t = ![t.val, 0, 0] :=
  (by decide +kernel : ∀ t : Fin grid0.N, win0_0.index t = ![0, t.val] ∧ win0_1.index t = ![t.val, 0, 0])

/-- Block `t` of the unary scores holds the columns of its pixels. -/
theorem blkA_u (t : Fin 96) (j : Fin 2048) :
    col (iblkA W c 0 t) j = pcol (W c (Proc.devRef .tc main_call0_v4)) (px t j) := by
  funext k
  unfold col pcol px
  blk_ext [iblkA, (indexA t).1]

/-- Block `t` of the labels holds the labels of its pixels. -/
theorem blkA_g (t : Fin 96) (j : Fin 2048) :
    (iblkA W c 1 t : IVec S1x1x2048 32) (ix3 0 0 j) = lab (W c (Proc.devRef .tc main_call0_v6)) (px t j) := by
  rw [lab_px]
  blk_ext [iblkA, (indexA t).2]

/-- The last of a kernel's 96 blocks. -/
def lastA : Fin cfg0.N := ⟨95, by decide⟩

/-- The unary columns and the labels as the first kernel finds them. -/
abbrev uA : Px → Col := pcol (W c (Proc.devRef .tc main_call0_v4))
abbrev gA : Px → BitVec 32 := lab (W c (Proc.devRef .tc main_call0_v6))

/-- What block `t` adds to an entry: the block's pixels' terms. -/
theorem blockA (f : Col → Col) (t : Fin 96) (k : Fin 21) (l : Nat) :
    ∑ j, f (col (iblkA W c 0 t) j) k * tag ((iblkA W c 1 t : IVec S1x1x2048 32) (ix3 0 0 j)) l = inBlock f (uA W c) (gA W c) k l t :=
  Finset.sum_congr rfl fun j _ => congrArg₂ (fun x w => f x k * tag w l) (blkA_u W c t j) (blkA_g W c t j)

/-- The first kernel's first table after its last block: the label sums of the log probabilities. -/
theorem accA_sp (k : Fin 21) (l : Fin 128) :
    (accA W c 95 lastA.isLt).1 (ix2 k l) = tally (fun x => spTerm (soft x)) (uA W c) (gA W c) k l.val := by
  rw [tally_blocks]
  exact running_total (N := 96) (fun n h => (accA W c n h).1 (ix2 k l)) (inBlock (fun x => spTerm (soft x)) (uA W c) (gA W c) k l.val)
    (fun h => (k0_sp _ _ k l).trans (blockA W c (fun x => spTerm (soft x)) ⟨0, h⟩ k l.val))
    (fun n h => (k0_add1 _ _ k l).trans (congrArg _ ((k0_sp _ _ k l).trans (blockA W c (fun x => spTerm (soft x)) ⟨n + 1, h⟩ k l.val)))) 95 lastA.isLt rfl

/-- Its second table: the label sums of the log gaps. -/
theorem accA_io (k : Fin 21) (l : Fin 128) :
    (accA W c 95 lastA.isLt).2 (ix2 k l) = tally (fun x => ioTerm (soft x)) (uA W c) (gA W c) k l.val := by
  rw [tally_blocks]
  exact running_total (N := 96) (fun n h => (accA W c n h).2 (ix2 k l)) (inBlock (fun x => ioTerm (soft x)) (uA W c) (gA W c) k l.val)
    (fun h => (k0_io _ _ k l).trans (blockA W c (fun x => ioTerm (soft x)) ⟨0, h⟩ k l.val))
    (fun n h => (k0_add2 _ _ k l).trans (congrArg _ ((k0_io _ _ k l).trans (blockA W c (fun x => ioTerm (soft x)) ⟨n + 1, h⟩ k l.val)))) 95 lastA.isLt rfl

/-- What the first kernel leaves in its first output: the table of label sums of the log probabilities. -/
theorem arrA_sp : afterRegion (datA W c) (W c) (Proc.devRef .tc main_call0_v7_0) = (accA W c 95 lastA.isLt).1 := by
  refine (Pipeline.afterRegion_arr (datA W c) (W c) launch0.win.arr_inj 2).trans ?_
  refine (datA W c).arrAt_eq_of_after_last 2 lastA (by decide +kernel) _ fun j => ?_
  blk_simp
  rw [after0_2]
  rfl

/-- And in its second: the table of label sums of the log gaps. -/
theorem arrA_io : afterRegion (datA W c) (W c) (Proc.devRef .tc main_call0_v7_1) = (accA W c 95 lastA.isLt).2 := by
  refine (Pipeline.afterRegion_arr (datA W c) (W c) launch0.win.arr_inj 3).trans ?_
  refine (datA W c).arrAt_eq_of_after_last 3 lastA (by decide +kernel) _ fun j => ?_
  blk_simp
  rw [after0_3]
  rfl

end Cert.KernelIdeal.Hand
end
-- ==== Proof.ArraysB.lean ====
/- The second kernel's arrays: its blocks read at an entry, the array of new scores, and its two tables of label sums. -/
module

public import proofs.«01_k».proof.Proof.Run
public import proofs.«01_k».proof.Proof.Pixels
public import Idealize.ShloMosaic.Lib.Pipeline.ValueKit

@[expose] public section

set_option maxRecDepth 16384

noncomputable section

namespace Cert.KernelIdeal.Hand

open Idealize.ShloMosaic Idealize.ShloMosaic.TcCoe
open Idealize.ShloMosaic.Pipeline (Dat Cfg Window afterRegion)
open Cert.KernelIdeal Cert.KernelIdeal.Gen Cert.Column

variable (W : Dev nD → Valuation τ sig (Elt Ideal)) (c : Dev nD)

theorem indexB : ∀ t : Fin cfg1.N, win1_0.index t = ![0, t.val] ∧ win1_1.index t = ![t.val, 0, 0] ∧ win1_9.index t = ![0, t.val] :=
  (by decide +kernel : ∀ t : Fin grid1.N, win1_0.index t = ![0, t.val] ∧ win1_1.index t = ![t.val, 0, 0] ∧ win1_9.index t = ![0, t.val])

theorem wholeB : ∀ t : Fin cfg1.N, win1_2.index t = ![0, 0] ∧ win1_3.index t = ![0, 0] ∧ win1_4.index t = ![0, 0] ∧ win1_5.index t = ![0, 0]
    ∧ win1_6.index t = ![0, 0] ∧ win1_7.index t = ![0, 0] ∧ win1_8.index t = ![0, 0] :=
  (by decide +kernel : ∀ t : Fin grid1.N, win1_2.index t = ![0, 0] ∧ win1_3.index t = ![0, 0] ∧ win1_4.index t = ![0, 0] ∧ win1_5.index t = ![0, 0]
    ∧ win1_6.index t = ![0, 0] ∧ win1_7.index t = ![0, 0] ∧ win1_8.index t = ![0, 0])

/-- The unary columns and the labels as the second kernel finds them. -/
abbrev uB : Px → Col := pcol (W c (Proc.devRef .tc main_call0_v4))
abbrev gB : Px → BitVec 32 := lab (W c (Proc.devRef .tc main_call0_v6))

/-- Block `t` of the unary scores holds the columns of its pixels. -/
theorem blkB_u (t : Fin 96) (j : Fin 2048) : col (iblkB W c 0 t) j = uB W c (px t j) := by
  funext k
  unfold col uB pcol px
  blk_ext [iblkB, (indexB t).1]

/-- Block `t` of the labels holds the labels of its pixels. -/
theorem blkB_g (t : Fin 96) (j : Fin 2048) : (iblkB W c 1 t : IVec S1x1x2048 32) (ix3 0 0 j) = gB W c (px t j) := by
  unfold gB
  rw [lab_px]
  blk_ext [iblkB, (indexB t).2.1]

/-- Every other operand is read whole at every block. -/
theorem blkB_whole (t : Fin cfg1.N) :
    iblkB W c 2 t = W c (Proc.devRef .tc main_call0_v7_0) ∧ iblkB W c 3 t = W c (Proc.devRef .tc main_call0_v7_1)
    ∧ iblkB W c 4 t = W c (Proc.devRef .tc main_call0_v0) ∧ iblkB W c 5 t = W c (Proc.devRef .tc main_call0_v1)
    ∧ iblkB W c 6 t = W c (Proc.devRef .tc main_arg3) ∧ iblkB W c 7 t = W c (Proc.devRef .tc main_arg4)
    ∧ iblkB W c 8 t = W c (Proc.devRef .tc main_arg7) := by
  obtain ⟨h2, h3, h4, h5, h6, h7, h8⟩ := wholeB t
  refine ⟨funext fun i => ?_, funext fun i => ?_, funext fun i => ?_, funext fun i => ?_, funext fun i => ?_, funext fun i => ?_, funext fun i => ?_⟩ <;>
    blk_ext [iblkB, h2, h3, h4, h5, h6, h7, h8]

/-- Pixel `p`'s scores after the first update. -/
def firstQ (p : Px) : Col :=
  kstep (lows (W c (Proc.devRef .tc main_call0_v0))) (highs (W c (Proc.devRef .tc main_call0_v1))) (mat (W c (Proc.devRef .tc main_arg3)))
    (mat (W c (Proc.devRef .tc main_arg4))) (mat (W c (Proc.devRef .tc main_arg7))) (uB W c p) (soft (uB W c p))
    (got (W c (Proc.devRef .tc main_call0_v7_0)) (gB W c p)) (got (W c (Proc.devRef .tc main_call0_v7_1)) (gB W c p))

/-- Block `t` of the new scores holds its pixels' scores after the first update. -/
theorem newQ_blk (t : Fin 96) (j : Fin 2048) :
    col (newQ (F := Ideal) (iblkB W c 0 t) (iblkB W c 1 t) (iblkB W c 2 t) (iblkB W c 3 t) (iblkB W c 4 t) (iblkB W c 5 t) (iblkB W c 6 t)
      (iblkB W c 7 t) (iblkB W c 8 t)) j = firstQ W c (px t j) := by
  obtain ⟨h2, h3, h4, h5, h6, h7, h8⟩ := blkB_whole W c t
  rw [h2, h3, h4, h5, h6, h7, h8]
  refine funext fun k => (newQ_apply _ _ _ _ _ _ _ _ _ k j).trans ?_
  exact congrArg₂ (fun x w => kstep _ _ _ _ _ x (soft x) (got _ w) (got _ w) k) (blkB_u W c t j) (blkB_g W c t j)

/-- The last of a kernel's 96 blocks. -/
def lastB : Fin cfg1.N := ⟨95, by decide⟩

/-- What block `t` adds to an entry: the block's pixels' terms. -/
theorem blockB (f : Col → Col) (t : Fin 96) (k : Fin 21) (l : Nat) :
    ∑ j, f (col (newQ (F := Ideal) (iblkB W c 0 t) (iblkB W c 1 t) (iblkB W c 2 t) (iblkB W c 3 t) (iblkB W c 4 t) (iblkB W c 5 t)
        (iblkB W c 6 t) (iblkB W c 7 t) (iblkB W c 8 t)) j) k * tag ((iblkB W c 1 t : IVec S1x1x2048 32) (ix3 0 0 j)) l
      = inBlock f (firstQ W c) (gB W c) k l t :=
  Finset.sum_congr rfl fun j _ => congrArg₂ (fun x w => f x k * tag w l) (newQ_blk W c t j) (blkB_g W c t j)

/-- The second kernel's first table after its last block: the label sums of the log probabilities. -/
theorem accB_sp (k : Fin 21) (l : Fin 128) :
    (accB W c 95 lastB.isLt).1 (ix2 k l) = tally (fun x => spTerm (soft x)) (firstQ W c) (gB W c) k l.val := by
  rw [tally_blocks]
  exact running_total (N := 96) (fun n h => (accB W c n h).1 (ix2 k l)) (inBlock (fun x => spTerm (soft x)) (firstQ W c) (gB W c) k l.val)
    (fun h => (spSum_apply _ _ _ _ _ _ _ _ _ k l).trans (blockB W c (fun x => spTerm (soft x)) ⟨0, h⟩ k l.val))
    (fun n h => (spNext_apply _ _ _ _ _ _ _ _ _ _ k l).trans (congrArg _
      ((spSum_apply _ _ _ _ _ _ _ _ _ k l).trans (blockB W c (fun x => spTerm (soft x)) ⟨n + 1, h⟩ k l.val)))) 95 lastB.isLt rfl

/-- The second kernel's second table: the label sums of the log gaps. -/
theorem accB_io (k : Fin 21) (l : Fin 128) :
    (accB W c 95 lastB.isLt).2 (ix2 k l) = tally (fun x => ioTerm (soft x)) (firstQ W c) (gB W c) k l.val := by
  rw [tally_blocks]
  exact running_total (N := 96) (fun n h => (accB W c n h).2 (ix2 k l)) (inBlock (fun x => ioTerm (soft x)) (firstQ W c) (gB W c) k l.val)
    (fun h => (ioSum_apply _ _ _ _ _ _ _ _ _ k l).trans (blockB W c (fun x => ioTerm (soft x)) ⟨0, h⟩ k l.val))
    (fun n h => (ioNext_apply _ _ _ _ _ _ _ _ _ _ k l).trans (congrArg _
      ((ioSum_apply _ _ _ _ _ _ _ _ _ k l).trans (blockB W c (fun x => ioTerm (soft x)) ⟨n + 1, h⟩ k l.val)))) 95 lastB.isLt rfl

theorem arrB_10 : afterRegion (datB W c) (W c) (Proc.devRef .tc main_call0_v8_1) = (accB W c 95 lastB.isLt).1 := by
  refine (Pipeline.afterRegion_arr (datB W c) (W c) launch1.win.arr_inj 10).trans ?_
  refine (datB W c).arrAt_eq_of_after_last 10 lastB (by decide +kernel) _ fun j => ?_
  blk_simp
  rw [after1_10]
  rfl

theorem arrB_11 : afterRegion (datB W c) (W c) (Proc.devRef .tc main_call0_v8_2) = (accB W c 95 lastB.isLt).2 := by
  refine (Pipeline.afterRegion_arr (datB W c) (W c) launch1.win.arr_inj 11).trans ?_
  refine (datB W c).arrAt_eq_of_after_last 11 lastB (by decide +kernel) _ fun j => ?_
  blk_simp
  rw [after1_11]
  rfl

/-- The array of new scores holds every pixel's scores after the first update. -/
theorem arrB_9 : afterRegion (datB W c) (W c) (Proc.devRef .tc main_call0_v8_0) = fun i : S21x196608.Idx => firstQ W c (i 1) (i 0) := by
  refine (Pipeline.afterRegion_arr (datB W c) (W c) launch1.win.arr_inj 9).trans ?_
  refine (datB W c).arrAt_eq_of_covers 9 _ (by decide +kernel) fun t hf y => ?_
  blk_simp
  rw [after1_9]
  idx_vars y
  refine (congrFun (newQ_blk W c t _) _).trans ?_
  refine congr (congrArg (firstQ W c) (Fin.ext ?_)) (Fin.ext ?_)
  · blk_simp [(indexB t).2.2, px]
    show 2048 * t.val + y1.val = t.val * 2048 + y1.val
    omega
  · blk_simp [(indexB t).2.2, px]

end Cert.KernelIdeal.Hand
end
-- ==== Proof.ArraysC.lean ====
/- The third kernel's array: its blocks read at an entry, and the array of final scores. -/
module

public import proofs.«01_k».proof.Proof.Run
public import proofs.«01_k».proof.Proof.Pixels
public import Idealize.ShloMosaic.Lib.Pipeline.ValueKit

@[expose] public section

set_option maxRecDepth 16384

noncomputable section

namespace Cert.KernelIdeal.Hand

open Idealize.ShloMosaic Idealize.ShloMosaic.TcCoe
open Idealize.ShloMosaic.Pipeline (Dat Cfg Window afterRegion)
open Cert.KernelIdeal Cert.KernelIdeal.Gen Cert.Column

variable (W : Dev nD → Valuation τ sig (Elt Ideal)) (c : Dev nD)

theorem indexC : ∀ t : Fin cfg2.N, win2_0.index t = ![0, t.val] ∧ win2_1.index t = ![0, t.val] ∧ win2_2.index t = ![t.val, 0, 0]
    ∧ win2_10.index t = ![0, t.val] :=
  (by decide +kernel : ∀ t : Fin grid2.N, win2_0.index t = ![0, t.val] ∧ win2_1.index t = ![0, t.val] ∧ win2_2.index t = ![t.val, 0, 0]
    ∧ win2_10.index t = ![0, t.val])

theorem wholeC : ∀ t : Fin cfg2.N, win2_3.index t = ![0, 0] ∧ win2_4.index t = ![0, 0] ∧ win2_5.index t = ![0, 0]
    ∧ win2_6.index t = ![0, 0] ∧ win2_7.index t = ![0, 0] ∧ win2_8.index t = ![0, 0] ∧ win2_9.index t = ![0, 0] :=
  (by decide +kernel : ∀ t : Fin grid2.N, win2_3.index t = ![0, 0] ∧ win2_4.index t = ![0, 0] ∧ win2_5.index t = ![0, 0]
    ∧ win2_6.index t = ![0, 0] ∧ win2_7.index t = ![0, 0] ∧ win2_8.index t = ![0, 0] ∧ win2_9.index t = ![0, 0])

/-- The unary columns, the scores after the first update, and the labels, as the third kernel finds them. -/
abbrev uC : Px → Col := pcol (W c (Proc.devRef .tc main_call0_v4))
abbrev qC : Px → Col := pcol (W c (Proc.devRef .tc main_call0_v8_0))
abbrev gC : Px → BitVec 32 := lab (W c (Proc.devRef .tc main_call0_v6))

/-- Block `t` of the unary scores holds the columns of its pixels. -/
theorem blkC_u (t : Fin 96) (j : Fin 2048) : col (iblkC W c 0 t) j = uC W c (px t j) := by
  funext k
  unfold col uC pcol px
  blk_ext [iblkC, (indexC t).1]

/-- Block `t` of the updated scores holds the columns of its pixels. -/
theorem blkC_q (t : Fin 96) (j : Fin 2048) : col (iblkC W c 1 t) j = qC W c (px t j) := by
  funext k
  unfold col qC pcol px
  blk_ext [iblkC, (indexC t).2.1]

/-- Block `t` of the labels holds the labels of its pixels. -/
theorem blkC_g (t : Fin 96) (j : Fin 2048) : (iblkC W c 2 t : IVec S1x1x2048 32) (ix3 0 0 j) = gC W c (px t j) := by
  unfold gC
  rw [lab_px]
  blk_ext [iblkC, (indexC t).2.2.1]

/-- Every other operand is read whole at every block. -/
theorem blkC_whole (t : Fin cfg2.N) :
    iblkC W c 3 t = W c (Proc.devRef .tc main_call0_v8_1) ∧ iblkC W c 4 t = W c (Proc.devRef .tc main_call0_v8_2)
    ∧ iblkC W c 5 t = W c (Proc.devRef .tc main_call0_v0) ∧ iblkC W c 6 t = W c (Proc.devRef .tc main_call0_v1)
    ∧ iblkC W c 7 t = W c (Proc.devRef .tc main_arg3) ∧ iblkC W c 8 t = W c (Proc.devRef .tc main_arg4)
    ∧ iblkC W c 9 t = W c (Proc.devRef .tc main_arg7) := by
  obtain ⟨h3, h4, h5, h6, h7, h8, h9⟩ := wholeC t
  refine ⟨funext fun i => ?_, funext fun i => ?_, funext fun i => ?_, funext fun i => ?_, funext fun i => ?_, funext fun i => ?_, funext fun i => ?_⟩ <;>
    blk_ext [iblkC, h3, h4, h5, h6, h7, h8, h9]

/-- Pixel `p`'s scores after the second update. -/
def secondQ (p : Px) : Col :=
  kstep (lows (W c (Proc.devRef .tc main_call0_v0))) (highs (W c (Proc.devRef .tc main_call0_v1))) (mat (W c (Proc.devRef .tc main_arg3)))
    (mat (W c (Proc.devRef .tc main_arg4))) (mat (W c (Proc.devRef .tc main_arg7))) (uC W c p) (soft (qC W c p))
    (got (W c (Proc.devRef .tc main_call0_v8_1)) (gC W c p)) (got (W c (Proc.devRef .tc main_call0_v8_2)) (gC W c p))

/-- Block `t` of the final scores holds its pixels' scores after the second update. -/
theorem outQ_blk (t : Fin 96) (j : Fin 2048) :
    col (outQ (F := Ideal) (iblkC W c 0 t) (iblkC W c 1 t) (iblkC W c 2 t) (iblkC W c 3 t) (iblkC W c 4 t) (iblkC W c 5 t) (iblkC W c 6 t)
      (iblkC W c 7 t) (iblkC W c 8 t) (iblkC W c 9 t)) j = secondQ W c (px t j) := by
  obtain ⟨h3, h4, h5, h6, h7, h8, h9⟩ := blkC_whole W c t
  rw [h3, h4, h5, h6, h7, h8, h9]
  refine funext fun k => (outQ_apply _ _ _ _ _ _ _ _ _ _ k j).trans ?_
  rw [show col (iblkC W c 1 t) j = qC W c (px t j) from blkC_q W c t j]
  exact congrArg₂ (fun x w => kstep _ _ _ _ _ x (soft (qC W c (px t j))) (got _ w) (got _ w) k) (blkC_u W c t j) (blkC_g W c t j)

/-- The array of final scores holds every pixel's scores after the second update. -/
theorem arrC_10 : afterRegion (datC W c) (W c) (Proc.devRef .tc main_call0_v9) = fun i : S21x196608.Idx => secondQ W c (i 1) (i 0) := by
  refine (Pipeline.afterRegion_arr (datC W c) (W c) launch2.win.arr_inj 10).trans ?_
  refine (datC W c).arrAt_eq_of_covers 10 _ (by decide +kernel) fun t hf y => ?_
  blk_simp
  rw [after2_10]
  idx_vars y
  refine (congrFun (outQ_blk W c t _) _).trans ?_
  refine congr (congrArg (secondQ W c) (Fin.ext ?_)) (Fin.ext ?_)
  · blk_simp [(indexC t).2.2.2, px]
    show 2048 * t.val + y1.val = t.val * 2048 + y1.val
    omega
  · blk_simp [(indexC t).2.2.2, px]

end Cert.KernelIdeal.Hand
end
-- ==== Proof.KernelValue.lean ====
/- What the kernel computes: two rounds over all pixels. -/
module

public import proofs.«01_k».proof.Proof.Entry
public import proofs.«01_k».proof.Proof.ArraysA
public import proofs.«01_k».proof.Proof.ArraysB
public import proofs.«01_k».proof.Proof.ArraysC

@[expose] public section

set_option maxRecDepth 16384

noncomputable section

namespace Cert.KernelIdeal.Hand

open Idealize.ShloMosaic Idealize.ShloMosaic.TcCoe
open Cert.KernelIdeal Cert.KernelIdeal.Gen Cert.Column

variable (m : (ℓ : Loc nD τ sig) → Buf (Elt Ideal) ℓ) (c : Dev nD)

/-- The scores after the first round. -/
abbrev roundOne : Px → Col := turn (argWeights m c) (argScores m c) (argScores m c) (argLabels m c)

/-- The first kernel's tables, as the second finds them. -/
theorem W2_sp (k : Fin 21) (l : Fin 128) : (W2 m c (Proc.devRef .tc main_call0_v7_0) : FVec Ideal S21x128 .f32) (ix2 k l)
    = tally spOf (argScores m c) (argLabels m c) k l.val := by
  rw [show W2 m c (Proc.devRef .tc main_call0_v7_0) = (accA (W1 m) c 95 lastA.isLt).1 from arrA_sp (W1 m) c, accA_sp,
    show uA (W1 m) c = argScores m c from (found1 m c).u, show gA (W1 m) c = argLabels m c from (found1 m c).g]

theorem W2_io (k : Fin 21) (l : Fin 128) : (W2 m c (Proc.devRef .tc main_call0_v7_1) : FVec Ideal S21x128 .f32) (ix2 k l)
    = tally ioOf (argScores m c) (argLabels m c) k l.val := by
  rw [show W2 m c (Proc.devRef .tc main_call0_v7_1) = (accA (W1 m) c 95 lastA.isLt).2 from arrA_io (W1 m) c, accA_io,
    show uA (W1 m) c = argScores m c from (found1 m c).u, show gA (W1 m) c = argLabels m c from (found1 m c).g]

variable {m c}

/-- The second kernel's scores are those of the first round. -/
theorem first_round (H : (argWeights m c).Sound) (hu : ∀ p k, Num (argScores m c p k)) (hg : ∀ p, (argLabels m c p).toNat < 100) :
    firstQ (W2 m) c = roundOne m c := by
  funext p
  unfold firstQ
  rw [(found2 m c).lw, (found2 m c).hw, (found2 m c).ws, (found2 m c).wb, (found2 m c).comp,
    show uB (W2 m) c = argScores m c from (found2 m c).u, show gB (W2 m) c = argLabels m c from (found2 m c).g]
  exact kstep_turn H hu hu _ p (hg p) _ _ (W2_sp m c) (W2_io m c)

/-- The second kernel's tables, as the third finds them. -/
theorem W3_sp (H : (argWeights m c).Sound) (hu : ∀ p k, Num (argScores m c p k)) (hg : ∀ p, (argLabels m c p).toNat < 100)
    (k : Fin 21) (l : Fin 128) : (W3 m c (Proc.devRef .tc main_call0_v8_1) : FVec Ideal S21x128 .f32) (ix2 k l)
    = tally spOf (roundOne m c) (argLabels m c) k l.val := by
  rw [show W3 m c (Proc.devRef .tc main_call0_v8_1) = (accB (W2 m) c 95 lastB.isLt).1 from arrB_10 (W2 m) c, accB_sp,
    first_round H hu hg, show gB (W2 m) c = argLabels m c from (found2 m c).g]

theorem W3_io (H : (argWeights m c).Sound) (hu : ∀ p k, Num (argScores m c p k)) (hg : ∀ p, (argLabels m c p).toNat < 100)
    (k : Fin 21) (l : Fin 128) : (W3 m c (Proc.devRef .tc main_call0_v8_2) : FVec Ideal S21x128 .f32) (ix2 k l)
    = tally ioOf (roundOne m c) (argLabels m c) k l.val := by
  rw [show W3 m c (Proc.devRef .tc main_call0_v8_2) = (accB (W2 m) c 95 lastB.isLt).2 from arrB_11 (W2 m) c, accB_io,
    first_round H hu hg, show gB (W2 m) c = argLabels m c from (found2 m c).g]

/-- And its scores. -/
theorem W3_q (H : (argWeights m c).Sound) (hu : ∀ p k, Num (argScores m c p k)) (hg : ∀ p, (argLabels m c p).toNat < 100) :
    qC (W3 m) c = roundOne m c := by
  funext p k
  unfold qC pcol
  rw [show W3 m c (Proc.devRef .tc main_call0_v8_0) = fun i : S21x196608.Idx => firstQ (W2 m) c (i 1) (i 0) from arrB_9 (W2 m) c,
    first_round H hu hg]
  rfl

/-- The third kernel's scores are those of the second round. -/
theorem second_round (H : (argWeights m c).Sound) (hu : ∀ p k, Num (argScores m c p k)) (hg : ∀ p, (argLabels m c p).toNat < 100) :
    secondQ (W3 m) c = answer (argWeights m c) (argScores m c) (argLabels m c) := by
  funext p
  unfold secondQ
  rw [(found3 m c).lw, (found3 m c).hw, (found3 m c).ws, (found3 m c).wb, (found3 m c).comp, W3_q H hu hg,
    show uC (W3 m) c = argScores m c from (found3 m c).u, show gC (W3 m) c = argLabels m c from (found3 m c).g]
  exact kstep_turn H hu (num_turn H hu hu _) _ p (hg p) _ _ (W3_sp H hu hg) (W3_io H hu hg)

/-- The kernel's result, an entry at a time. -/
theorem kernel_answer (H : (argWeights m c).Sound) (hu : ∀ p k, Num (argScores m c p k)) (hg : ∀ p, (argLabels m c p).toNat < 100)
    (k : Fin 21) (h : Fin 384) (w : Fin 512) :
    (W5 m c (Proc.devRef .tc main_v0) : FVec Ideal S1x21x384x512 .f32) (ix4 0 k h w)
      = answer (argWeights m c) (argScores m c) (argLabels m c) (place h w) k := by
  rw [W5_v0, show W4 m c (Proc.devRef .tc main_call0_v9) = fun i : S21x196608.Idx => secondQ (W3 m) c (i 1) (i 0) from arrC_10 (W3 m) c,
    second_round H hu hg]
  rfl

end Cert.KernelIdeal.Hand
end
-- ==== Proof.RefRound.lean ====
/- One round of the reference as a function of its operands: the softmax, the label sums gathered back, and the new scores. Both of the
   reference's rounds are this function. -/
module

public import proofs.«01_k».proof.Proof.Gen.ReferenceIdeal.Read

@[expose] public section

noncomputable section

namespace Cert.ReferenceIdeal.Hand

open Idealize.ShloMosaic
open Cert.ReferenceIdeal Cert.ReferenceIdeal.Gen Cert.ReferenceIdeal.Read

/-- The float constant `w` over the picture. -/
def flat (w : BitVec 32) : FVec Ideal S21x384x512 .f32 := broadcastInDim S21x384x512 ![] bcast_S_S21x384x512 (constant S_ .f32 w)

/-- A value per pixel, over the channels. -/
def over (x : FVec Ideal S384x512 .f32) : FVec Ideal S21x384x512 .f32 :=
  broadcastInDim S21x384x512 ![0, 1, 2] bcast_S1x384x512_S21x384x512_0_1_2 (broadcastInDim S1x384x512 ![1, 2] bcast_S384x512_S1x384x512_1_2 x)

/-- The largest channel of every pixel. -/
def top (x : FVec Ideal S21x384x512 .f32) : FVec Ideal S384x512 .f32 :=
  Host.reduce FloatOps.maximumf x (constant (F := Ideal) S_ .f32 0xFF800000#32) reducesTo_S21x384x512_S384x512_d0 h_S_

/-- The shifted exponentials of the scores `q`. -/
def expV (q : FVec Ideal S21x384x512 .f32) : FVec Ideal S21x384x512 .f32 :=
  Host.exp (subf q (over (maximumf (broadcastInDim S384x512 ![] bcast_S_S384x512 (constant S_ .f32 0xFF800000#32)) (top q))))

/-- The softmax of the scores `q` over the channels. -/
def softV (q : FVec Ideal S21x384x512 .f32) : FVec Ideal S21x384x512 .f32 :=
  Host.divf (expV q) (over (Host.reduceAdd (expV q) (constant S_ .f32 0x00000000#32) reducesTo_S21x384x512_S384x512_d0 h_S_))

/-- The first logarithm. -/
def spV (s : FVec Ideal S21x384x512 .f32) : FVec Ideal S21x384x512 .f32 := Host.log (addf s (flat 0x3727C5AC#32))

/-- A channel's value plus the largest, less the value where it is the largest itself. -/
def gapV (s : FVec Ideal S21x384x512 .f32) : FVec Ideal S21x384x512 .f32 :=
  subf (addf (addf s (flat 0x3727C5AC#32)) (over (top (addf s (flat 0x3727C5AC#32)))))
    (mulf (uitofp .f32 (cmpf .oeq s (over (top s)))) s)

/-- The sums over the pixels of each label. -/
def sumsV (x : FVec Ideal S21x384x512 .f32) (g : IVec S196608 32) : FVec Ideal S100x21 .f32 :=
  Host.scatterAdd scatter_S100x21_S196608x1_S196608x21_1_0_0_1 (broadcastInDim S100x21 ![] bcast_S_S100x21 (constant S_ .f32 0x00000000#32))
    (broadcastInDim S196608x1 ![0] bcast_S196608_S196608x1_0 g)
    (transpose S196608x21 [1, 0] (shapeCast S21x196608 x shapeCasts_S21x384x512_S21x196608) transposes_S21x196608_S196608x21_1_0)

/-- The labels, a negative one wrapped. -/
def wrapV (g : IVec S196608 32) : IVec S196608x1 32 :=
  broadcastInDim S196608x1 ![0] bcast_S196608_S196608x1_0
    (select (cmpi .slt g (broadcastInDim S196608 ![] bcast_S_S196608 (constantI S_ 32 0#32)))
      (addi g (broadcastInDim S196608 ![] bcast_S_S196608 (constantI S_ 32 100#32))) g)

/-- Every pixel's label sum. -/
def backV (x : FVec Ideal S21x384x512 .f32) (g : IVec S196608 32) : FVec Ideal S21x384x512 .f32 :=
  shapeCast S21x384x512 (transpose S21x196608 [1, 0]
    (Host.gather gather_S100x21_S196608x1_S196608x21_1_0_n_n_0_1_121 (sumsV x g) (wrapV g)) transposes_S196608x21_S21x196608_1_0)
    shapeCasts_S21x196608_S21x384x512

/-- A denominator kept from being zero. -/
def safeV (d : FVec Ideal S21x384x512 .f32) : FVec Ideal S21x384x512 .f32 := addf d (uitofp .f32 (cmpf .oeq d (flat 0x00000000#32)))

/-- A label sum against a denominator. -/
def ratioV (p d : FVec Ideal S21x384x512 .f32) : FVec Ideal S21x384x512 .f32 := Host.exp (subf p (Host.log (addf d (flat 0x3727C5AC#32))))

/-- One of the update's three parts, from its low weights and its high one. -/
def partV (p d : FVec Ideal S21x384x512 .f32) (l : FVec Ideal S21 .f32) (h : FVec Ideal S_ .f32) : FVec Ideal S21x384x512 .f32 :=
  addf (mulf (broadcastInDim S21x384x512 ![0, 1, 2] bcast_S21x1x1_S21x384x512_0_1_2 (broadcastInDim S21x1x1 ![0] bcast_S21_S21x1x1_0 l)) (ratioV p d))
    (mulf (broadcastInDim S21x384x512 ![] bcast_S_S21x384x512 h) (subf (flat 0x3F800000#32) (ratioV p d)))

/-- The pairwise message of the probabilities `s`. -/
def messageV (s : FVec Ideal S21x384x512 .f32) (ws wb comp : FVec Ideal S21x21 .f32) : FVec Ideal S21x384x512 .f32 :=
  shapeCast S21x384x512 (Host.dotGeneral dot_S21x21_S21x196608_S21x196608_1_0_0_1_n_n none comp
    (addf (Host.dotGeneral dot_S21x21_S21x196608_S21x196608_1_0_0_1_n_n none ws (shapeCast S21x196608 s shapeCasts_S21x384x512_S21x196608))
      (Host.dotGeneral dot_S21x21_S21x196608_S21x196608_1_0_0_1_n_n none wb (shapeCast S21x196608 s shapeCasts_S21x384x512_S21x196608))))
    shapeCasts_S21x196608_S21x384x512

/-- The superpixel update. -/
def updateV (s p r : FVec Ideal S21x384x512 .f32) (lw : FVec Ideal S3x21 .f32) (hw : FVec Ideal S3 .f32) : FVec Ideal S21x384x512 .f32 :=
  addf (addf
    (partV p (safeV s) (shapeCast S21 (extractStridedSlice S1x21 ![0, 0] lw slices_S3x21_S1x21_0_0) shapeCasts_S1x21_S21)
      (shapeCast S_ (extractStridedSlice S1 ![0] hw slices_S3_S1_0) shapeCasts_S1_S_))
    (partV r (safeV (gapV s)) (shapeCast S21 (extractStridedSlice S1x21 ![1, 0] lw slices_S3x21_S1x21_1_0) shapeCasts_S1x21_S21)
      (shapeCast S_ (extractStridedSlice S1 ![1] hw slices_S3_S1_1) shapeCasts_S1_S_)))
    (partV (mulf (flat 0x42C60000#32) p) (safeV s) (shapeCast S21 (extractStridedSlice S1x21 ![2, 0] lw slices_S3x21_S1x21_2_0) shapeCasts_S1x21_S21)
      (shapeCast S_ (extractStridedSlice S1 ![2] hw slices_S3_S1_2) shapeCasts_S1_S_))

/-- The new scores from the unaries `u` and the scores `q`. -/
def roundV (u q : FVec Ideal S21x384x512 .f32) (g : IVec S196608 32) (ws wb : FVec Ideal S21x21 .f32) (lw : FVec Ideal S3x21 .f32)
    (hw : FVec Ideal S3 .f32) (comp : FVec Ideal S21x21 .f32) : FVec Ideal S21x384x512 .f32 :=
  subf (subf u (messageV (softV q) ws wb comp))
    (updateV (softV q) (backV (spV (softV q)) g) (backV (Host.log (addf (gapV (softV q)) (flat 0x3727C5AC#32))) g) lw hw)

section
variable (x0 : FVec Ideal S1x384x512x21 .f32) (x2 : IVec S1x384x512 32) (x3 x4 : FVec Ideal S21x21 .f32) (x5 : FVec Ideal S3x21 .f32)
  (x6 : FVec Ideal S3 .f32) (x7 : FVec Ideal S21x21 .f32)

/-- The reference's first softmax. -/
theorem soft1 : val_main_v13 (F := Ideal) x0 = softV (val_main_v1 (F := Ideal) x0) := rfl

/-- The reference's first round. -/
theorem round1 : val_main_v134 (F := Ideal) x0 x2 x3 x4 x5 x6 x7
    = roundV (val_main_v1 (F := Ideal) x0) (val_main_v1 (F := Ideal) x0) (val_main_v14 (F := Ideal) x2) x3 x4 x5 x6 x7 := rfl

/-- The reference's second round. -/
theorem round2 : val_main_v266 (F := Ideal) x0 x2 x3 x4 x5 x6 x7
    = roundV (val_main_v1 (F := Ideal) x0) (val_main_v134 (F := Ideal) x0 x2 x3 x4 x5 x6 x7) (val_main_v14 (F := Ideal) x2) x3 x4 x5 x6 x7 := rfl
end

end Cert.ReferenceIdeal.Hand
end
-- ==== Proof.RefRead.lean ====
/- What each value of one round of the reference is at one pixel. -/
module

public import proofs.«01_k».proof.Proof.RefRound
public import proofs.«01_k».proof.Proof.Column
public import Idealize.ShloMosaic.Lib.Pointwise

@[expose] public section

set_option maxRecDepth 16384

noncomputable section

namespace Cert.ReferenceIdeal.Hand

open Idealize.ShloMosaic
open Cert.ReferenceIdeal Cert.ReferenceIdeal.Gen Cert.Column

/-- The column of the pixel at row `h` and place `w`. -/
def pcol (v : FVec Ideal S21x384x512 .f32) (h : Fin 384) (w : Fin 512) : Col := fun c => v (ix3 c h w)

theorem flat_apply (z : BitVec 32) (c : Fin 21) (h : Fin 384) (w : Fin 512) : flat z (ix3 c h w) = Ideal.ofBits .f32 z := by
  pointwise [flat]

theorem flat_zero (c : Fin 21) (h : Fin 384) (w : Fin 512) : flat 0x00000000#32 (ix3 c h w) = 0 := by pointwise [flat]

theorem flat_one (c : Fin 21) (h : Fin 384) (w : Fin 512) : flat 0x3F800000#32 (ix3 c h w) = 1 := by pointwise [flat]

theorem over_apply (x : FVec Ideal S384x512 .f32) (c : Fin 21) (h : Fin 384) (w : Fin 512) : over x (ix3 c h w) = x (ix2 h w) := by
  pointwise [over]

theorem top_apply (x : FVec Ideal S21x384x512 .f32) (h : Fin 384) (w : Fin 512) : top x (ix2 h w) = peak (pcol x h w) := by
  pointwise [top]
  rfl

/-- A truth bit read as a number. -/
theorem bit_value (a b : EReal) : (FloatOps.uitofp (F := Ideal) .f32 (BitVec.ofBool (decide (a = b))) : EReal) = hit a b := by
  show (((BitVec.ofBool (decide (a = b))).toNat : ℝ) : EReal) = _
  unfold hit
  by_cases h : a = b
  · rw [decide_eq_true h, if_pos h]; simp
  · rw [decide_eq_false h, if_neg h]; simp

/-- The fold's start is no larger than its result. -/
theorem least_peak (x : Col) : max least (peak x) = peak x :=
  max_eq_right ((Finset.le_fold_max least).2 (Or.inl le_rfl))

theorem expV_apply (x : FVec Ideal S21x384x512 .f32) (c : Fin 21) (h : Fin 384) (w : Fin 512) :
    expV x (ix3 c h w) = Ideal.exp (x (ix3 c h w) - peak (pcol x h w)) := by
  have hm : ∀ y : FVec Ideal S384x512 .f32, maximumf (broadcastInDim S384x512 ![] bcast_S_S384x512 (constant S_ .f32 0xFF800000#32)) y (ix2 h w)
      = max least (y (ix2 h w)) := fun y => by
    pointwise
    rfl
  pointwise [expV]
  rw [over_apply, hm, top_apply, least_peak]

/-- The reference's softmax is the column's. -/
theorem softV_apply (x : FVec Ideal S21x384x512 .f32) (c : Fin 21) (h : Fin 384) (w : Fin 512) :
    softV x (ix3 c h w) = soft (pcol x h w) c := by
  pointwise [softV]
  simp only [over_apply, expV_apply]
  pointwise
  simp only [expV_apply]
  rfl

theorem softV_col (x : FVec Ideal S21x384x512 .f32) (h : Fin 384) (w : Fin 512) : pcol (softV x) h w = soft (pcol x h w) :=
  funext fun c => softV_apply x c h w

theorem spV_apply (s : FVec Ideal S21x384x512 .f32) (c : Fin 21) (h : Fin 384) (w : Fin 512) :
    spV s (ix3 c h w) = spTerm (pcol s h w) c := by
  pointwise [spV]
  rw [flat_apply]
  rfl

theorem gapV_apply (s : FVec Ideal S21x384x512 .f32) (c : Fin 21) (h : Fin 384) (w : Fin 512) :
    gapV s (ix3 c h w) = gap (pcol s h w) c := by
  pointwise [gapV]
  simp only [over_apply, top_apply, flat_apply, bit_value]
  unfold gap
  congr 2

theorem ioV_apply (s : FVec Ideal S21x384x512 .f32) (c : Fin 21) (h : Fin 384) (w : Fin 512) :
    Host.log (addf (gapV s) (flat 0x3727C5AC#32)) (ix3 c h w) = ioTerm (pcol s h w) c := by
  pointwise
  rw [flat_apply, gapV_apply]
  rfl

theorem safeV_apply (d : FVec Ideal S21x384x512 .f32) (c : Fin 21) (h : Fin 384) (w : Fin 512) :
    safeV d (ix3 c h w) = d (ix3 c h w) + hit (d (ix3 c h w)) 0 := by
  pointwise [safeV]
  rw [flat_zero, bit_value]

/-- The reference's message is the column's. -/
theorem messageV_apply (s : FVec Ideal S21x384x512 .f32) (ws wb comp : FVec Ideal S21x21 .f32) (c : Fin 21) (h : Fin 384) (w : Fin 512) :
    messageV s ws wb comp (ix3 c h w) = message (fun a b => ws (ix2 a b)) (fun a b => wb (ix2 a b)) (fun a b => comp (ix2 a b)) (pcol s h w) c := by
  pointwise [messageV]
  rfl

theorem partV_apply (p d : FVec Ideal S21x384x512 .f32) (l : FVec Ideal S21 .f32) (g : FVec Ideal S_ .f32) (c : Fin 21) (h : Fin 384) (w : Fin 512) :
    partV p d l g (ix3 c h w) = part (p (ix3 c h w)) (d (ix3 c h w)) (l (ix1 c)) (g ix0) := by
  pointwise [partV, ratioV]
  rw [flat_apply, flat_one]
  rfl

/-- The reference's update is the column's. -/
theorem updateV_apply (s p r : FVec Ideal S21x384x512 .f32) (lw : FVec Ideal S3x21 .f32) (hw : FVec Ideal S3 .f32) (c : Fin 21) (h : Fin 384)
    (w : Fin 512) :
    updateV s p r lw hw (ix3 c h w) = update (fun k c => lw (ix2 k c)) (fun k => hw (ix1 k)) (pcol s h w) (pcol p h w) (pcol r h w) c := by
  pointwise [updateV]
  simp only [partV_apply, safeV_apply, gapV_apply]
  pointwise
  rw [flat_apply]
  rfl

/-- One round of the reference, at one pixel: a step from its column and its two label sums. -/
theorem roundV_apply (u q : FVec Ideal S21x384x512 .f32) (g : IVec S196608 32) (ws wb : FVec Ideal S21x21 .f32) (lw : FVec Ideal S3x21 .f32)
    (hw : FVec Ideal S3 .f32) (comp : FVec Ideal S21x21 .f32) (h : Fin 384) (w : Fin 512) :
    pcol (roundV u q g ws wb lw hw comp) h w
      = step (fun k c => lw (ix2 k c)) (fun k => hw (ix1 k)) (fun a b => ws (ix2 a b)) (fun a b => wb (ix2 a b)) (fun a b => comp (ix2 a b))
          (pcol u h w) (soft (pcol q h w)) (pcol (backV (spV (softV q)) g) h w)
          (pcol (backV (Host.log (addf (gapV (softV q)) (flat 0x3727C5AC#32))) g) h w) := by
  funext c
  unfold pcol
  pointwise [roundV]
  rw [messageV_apply, updateV_apply, softV_col]
  rfl

end Cert.ReferenceIdeal.Hand
end
-- ==== Proof.RefLabels.lean ====
/- The reference's label sums: scattering a value per pixel into its label's row, and gathering the row back at every pixel. -/
module

public import proofs.«01_k».proof.Proof.RefRound
public import proofs.«01_k».proof.Proof.Column
public import Idealize.ShloMosaic.Lib.Pointwise
public import Idealize.ShloMosaic.Lib.Routing.Ops
public import Idealize.ShloMosaic.Lib.Routing.OpsPair

@[expose] public section

set_option maxRecDepth 16384

noncomputable section

namespace Cert.ReferenceIdeal.Hand

open Idealize.ShloMosaic
open Cert.ReferenceIdeal Cert.ReferenceIdeal.Gen Cert.Column

/-- Where an update lands: in its pixel's row, at its own channel. -/
theorem lands (idx : IVec S196608x1 32) (p : Fin 196608) (k : Fin 21) (l : Fin 100) (c : Fin 21) :
    scatter_S100x21_S196608x1_S196608x21_1_0_0_1.resultIdx? (ix2 p k) idx = some (ix2 l c)
      ↔ (idx (ix2 p 0)).toInt = (l.val : Int) ∧ k = c := by
  rw [Routing.resultIdx?_eq_some]
  have h0 : scatter_S100x21_S196608x1_S196608x21_1_0_0_1.start (ix2 p k) idx (0 : Fin 2) = (idx (ix2 p 0)).toInt := by
    unfold ScatterDims.start
    rw [dif_pos (by decide)]
    refine congrArg (fun i => (idx i).toInt) (funext fun a => Fin.ext ?_)
    match a with
    | ⟨0, _⟩ => rfl
    | ⟨1, _⟩ => rfl
  have h1 : scatter_S100x21_S196608x1_S196608x21_1_0_0_1.start (ix2 p k) idx (1 : Fin 2) = 0 := by
    unfold ScatterDims.start
    rw [dif_neg (by decide)]
  have w0 : scatter_S100x21_S196608x1_S196608x21_1_0_0_1.window (ix2 p k) (0 : Fin 2) = 0 := rfl
  have w1 : scatter_S100x21_S196608x1_S196608x21_1_0_0_1.window (ix2 p k) (1 : Fin 2) = k.val := rfl
  constructor
  · intro h
    have e0 := h (0 : Fin 2)
    have e1 := h (1 : Fin 2)
    rw [h0, w0] at e0
    rw [h1, w1] at e1
    exact ⟨by simpa using e0, Fin.ext (by simpa using e1)⟩
  · rintro ⟨e, rfl⟩ a
    match a with
    | ⟨0, _⟩ => exact (congrArg₂ (fun (x : Int) (y : Nat) => x + (y : Int)) h0 w0).trans (by simpa using e)
    | ⟨1, _⟩ => exact (congrArg₂ (fun (x : Int) (y : Nat) => x + (y : Int)) h1 w1).trans (by simp)

/-- A row of the label sums: the values of the pixels with that label, added up. -/
theorem sumsV_apply (x : FVec Ideal S21x384x512 .f32) (g : IVec S196608 32) (l : Fin 100) (c : Fin 21) :
    sumsV x g (ix2 l c) = ∑ p : Fin 196608, if (g (ix1 p)).toInt = (l.val : Int) then
      x (ix3 c ⟨p.val / 512, by have := p.isLt; omega⟩ ⟨p.val % 512, Nat.mod_lt _ (by decide)⟩) else 0 := by
  unfold sumsV Host.scatterAdd
  rw [Ideal.hostScatterAdd_def]
  unfold Ideal.hostScatterAdd
  rw [Finset.sum_filter, sum_idx2]
  pointwise
  simp only [lands]
  refine Finset.sum_congr rfl fun p _ => ?_
  have hg : broadcastInDim S196608x1 ![0] bcast_S196608_S196608x1_0 g (ix2 p 0) = g (ix1 p) := by pointwise
  rw [hg]
  by_cases h : (g (ix1 p)).toInt = (l.val : Int)
  · simp only [h, true_and, if_true]
    rw [Finset.sum_ite_eq' Finset.univ c]
    exact if_pos (Finset.mem_univ c)
  · simp only [h, false_and, if_false]
    exact Finset.sum_const_zero

/-- A word that is a label as a number is that label's word. -/
theorem toInt_iff (w : BitVec 32) (l : Nat) (hl : l < 100) : w.toInt = (l : Int) ↔ w = BitVec.ofNat 32 l := by
  have hn : (BitVec.ofNat 32 l).toNat = l := by rw [BitVec.toNat_ofNat]; exact Nat.mod_eq_of_lt (by omega)
  have hi : (BitVec.ofNat 32 l).toInt = (l : Int) := by
    rw [BitVec.toInt_eq_toNat_of_lt (by rw [hn]; omega), hn]
  exact ⟨fun h => BitVec.eq_of_toInt_eq (h.trans hi.symm), fun h => h ▸ hi⟩

/-- A value of every pixel, summed over the pixels of label `l`. -/
def share (x : FVec Ideal S21x384x512 .f32) (g : IVec S196608 32) (l : Nat) (c : Fin 21) : EReal :=
  ∑ p : Fin 196608, x (ix3 c ⟨p.val / 512, by have := p.isLt; omega⟩ ⟨p.val % 512, Nat.mod_lt _ (by decide)⟩) * tag (g (ix1 p)) l

theorem sumsV_share (x : FVec Ideal S21x384x512 .f32) (g : IVec S196608 32) (l : Fin 100) (c : Fin 21) :
    sumsV x g (ix2 l c) = share x g l.val c := by
  rw [sumsV_apply]
  refine Finset.sum_congr rfl fun p _ => ?_
  unfold tag
  by_cases h : (g (ix1 p)).toInt = (l.val : Int)
  · rw [if_pos h, if_pos ((toInt_iff _ _ l.isLt).1 h), mul_one]
  · rw [if_neg h, if_neg fun e => h ((toInt_iff _ _ l.isLt).2 e), mul_zero]

/-- The flat place of the pixel at row `h` and place `w`. -/
def at2 (h : Fin 384) (w : Fin 512) : Fin 196608 := ⟨h.val * 512 + w.val, by have := h.isLt; have := w.isLt; omega⟩

/-- A label is not wrapped. -/
theorem wrapV_apply (g : IVec S196608 32) (p : Fin 196608) (l : Nat) (hl : l < 100) (hg : g (ix1 p) = BitVec.ofNat 32 l) :
    wrapV g (ix2 p 0) = BitVec.ofNat 32 l := by
  pointwise [wrapV]
  rw [hg]
  refine Routing.wrap_of_lt _ _ ?_
  rw [BitVec.toNat_ofNat, Nat.mod_eq_of_lt (by omega)]
  omega

/-- What comes back at a pixel is its label's sum. -/
theorem backV_apply (x : FVec Ideal S21x384x512 .f32) (g : IVec S196608 32) (c : Fin 21) (h : Fin 384) (w : Fin 512) (l : Nat) (hl : l < 100)
    (hg : g (ix1 (at2 h w)) = BitVec.ofNat 32 l) : backV x g (ix3 c h w) = share x g l c := by
  rw [← sumsV_share x g ⟨l, hl⟩ c]
  pointwise [backV]
  refine (Eq.trans ?_ (Routing.gather_row gather_S100x21_S196608x1_S196608x21_1_0_n_n_0_1_121 rfl rfl rfl rfl rfl (sumsV x g) (wrapV g)
    (at2 h w) c ⟨l, hl⟩ ?_ (by decide))).trans ?_
  · rw [← ix2_eq_valueIdx]
    rfl
  · exact wrapV_apply g (at2 h w) l hl hg
  · rfl

end Cert.ReferenceIdeal.Hand
end
-- ==== Proof.RefValue.lean ====
/- What the reference computes: two rounds over all pixels. -/
module

public import proofs.«01_k».proof.Proof.RefRead
public import proofs.«01_k».proof.Proof.RefLabels
public import proofs.«01_k».proof.Proof.Mean

@[expose] public section

set_option maxRecDepth 16384

noncomputable section

namespace Cert.ReferenceIdeal.Hand

open Idealize.ShloMosaic
open Cert.ReferenceIdeal Cert.ReferenceIdeal.Gen Cert.ReferenceIdeal.Read Cert.Column
open Cert.KernelIdeal.Hand (Px tally spOf ioOf turn scores labels weights answer place Weights)

/-- The columns of a channels-by-rows-by-places array, pixel by pixel. -/
def cols (v : FVec Ideal S21x384x512 .f32) : Px → Col := fun p =>
  pcol v ⟨p.val / 512, by have := p.isLt; omega⟩ ⟨p.val % 512, Nat.mod_lt _ (by decide)⟩

theorem cols_place (v : FVec Ideal S21x384x512 .f32) (h : Fin 384) (w : Fin 512) : cols v (place h w) = pcol v h w := by
  have hh := h.isLt
  have hw := w.isLt
  exact congrArg₂ (pcol v) (Fin.ext (by simp only [place]; omega)) (Fin.ext (by simp only [place]; omega))

/-- The reference's label sums are the tallies of its columns. -/
theorem share_sp (q : FVec Ideal S21x384x512 .f32) (g : IVec S196608 32) (l : Nat) (c : Fin 21) :
    share (spV (softV q)) g l c = tally spOf (cols q) (fun p => g (ix1 p)) c l :=
  Finset.sum_congr rfl fun p _ => congrArg (· * tag (g (ix1 p)) l)
    ((spV_apply (softV q) c _ _).trans (congrArg (fun s => spTerm s c) (softV_col q _ _)))

theorem share_io (q : FVec Ideal S21x384x512 .f32) (g : IVec S196608 32) (l : Nat) (c : Fin 21) :
    share (Host.log (addf (gapV (softV q)) (flat 0x3727C5AC#32))) g l c = tally ioOf (cols q) (fun p => g (ix1 p)) c l :=
  Finset.sum_congr rfl fun p _ => congrArg (· * tag (g (ix1 p)) l)
    ((ioV_apply (softV q) c _ _).trans (congrArg (fun s => ioTerm s c) (softV_col q _ _)))

/-- One round of the reference, when every label is one of the 100. -/
theorem roundV_turn (u q : FVec Ideal S21x384x512 .f32) (g : IVec S196608 32) (x3 x4 : FVec Ideal S21x21 .f32) (x5 : FVec Ideal S3x21 .f32)
    (x6 : FVec Ideal S3 .f32) (x7 : FVec Ideal S21x21 .f32)
    (hg : ∀ p, (g (ix1 p)).toNat < 100) :
    cols (roundV u q g x3 x4 x5 x6 x7) = turn (weights x3 x4 x5 x6 x7) (cols u) (cols q) (fun p => g (ix1 p)) := by
  funext p
  have hp := p.isLt
  have hat : at2 ⟨p.val / 512, by omega⟩ ⟨p.val % 512, Nat.mod_lt _ (by decide)⟩ = p := Fin.ext (by simp only [at2]; omega)
  unfold cols
  rw [roundV_apply]
  have hl : g (ix1 (at2 ⟨p.val / 512, by omega⟩ ⟨p.val % 512, Nat.mod_lt _ (by decide)⟩)) = BitVec.ofNat 32 (g (ix1 p)).toNat := by
    rw [hat]; simp
  refine congrArg₂ (step _ _ _ _ _ _ _) (funext fun c => ?_) (funext fun c => ?_)
  · exact (backV_apply _ g c _ _ _ (hg p) hl).trans (share_sp q g _ c)
  · exact (backV_apply _ g c _ _ _ (hg p) hl).trans (share_io q g _ c)

/-- The reference's reading of its arguments: the unaries channel first, the labels in one row. -/
theorem unary_cols (x0 : FVec Ideal S1x384x512x21 .f32) : cols (val_main_v1 (F := Ideal) x0) = scores x0 := by
  funext p c
  unfold cols pcol scores
  pointwise [val_main_v1, val_main_v0]

theorem label_row (x2 : IVec S1x384x512 32) : (fun p => val_main_v14 (F := Ideal) x2 (ix1 p)) = labels x2 := by
  funext p
  unfold labels
  pointwise [val_main_v14, val_main_v2]

/-- The reference's result, an entry at a time. -/
theorem result_answer (x0 : FVec Ideal S1x384x512x21 .f32) (x2 : IVec S1x384x512 32) (x3 x4 : FVec Ideal S21x21 .f32) (x5 : FVec Ideal S3x21 .f32)
    (x6 : FVec Ideal S3 .f32) (x7 : FVec Ideal S21x21 .f32) (hg : ∀ p, (labels x2 p).toNat < 100) (c : Fin 21) (h : Fin 384) (w : Fin 512) :
    val_main_v267 (F := Ideal) x0 x2 x3 x4 x5 x6 x7 (ix4 0 c h w)
      = answer (weights x3 x4 x5 x6 x7) (scores x0) (labels x2) (place h w) c := by
  have hg' : ∀ p, (val_main_v14 (F := Ideal) x2 (ix1 p)).toNat < 100 := fun p => (congrFun (label_row x2) p) ▸ hg p
  have h1 : cols (val_main_v134 (F := Ideal) x0 x2 x3 x4 x5 x6 x7) = turn (weights x3 x4 x5 x6 x7) (scores x0) (scores x0) (labels x2) := by
    rw [round1, roundV_turn _ _ _ _ _ _ _ _ hg', unary_cols, label_row]
  have h2 : cols (val_main_v266 (F := Ideal) x0 x2 x3 x4 x5 x6 x7) = answer (weights x3 x4 x5 x6 x7) (scores x0) (labels x2) := by
    rw [round2, roundV_turn _ _ _ _ _ _ _ _ hg', unary_cols, label_row, h1]
    rfl
  rw [← h2, cols_place, val_main_v267_apply]
  refine congrArg (val_main_v266 (F := Ideal) x0 x2 x3 x4 x5 x6 x7) (funext fun a => Fin.ext ?_)
  match a with
  | ⟨0, _⟩ => rfl
  | ⟨1, _⟩ => rfl
  | ⟨2, _⟩ => rfl

end Cert.ReferenceIdeal.Hand
end
-- ==== Proof.Equation.lean ====
/- The equation: from equal arguments, with labels below 100 and real numbers elsewhere, the kernel's result is the reference's. -/
module

public import proofs.«01_k».proof.Proof.Pre
public import proofs.«01_k».proof.Proof.KernelValue
public import proofs.«01_k».proof.Proof.RefValue
public import proofs.«01_k».proof.Proof.Gen.ReferenceIdeal.Run
public import proofs.«01_k».proof.Proof.Gen.ReferenceIdeal.Read

@[expose] public section

set_option maxRecDepth 16384

noncomputable section

namespace Cert.Hand

open Idealize.ShloMosaic Idealize.ShloMosaic.TcCoe Idealize.SL.Sem Idealize.ShloMosaic.StableHlo
open Cert.Column Cert.KernelIdeal.Hand

/-- Two arrays of the result's shape with the same entries are equal. -/
theorem result_ext (a b : FVec Ideal Cert.KernelIdeal.S1x21x384x512 .f32)
    (h : ∀ (k : Fin 21) (i : Fin 384) (j : Fin 512), a (ix4 0 k i j) = b (ix4 0 k i j)) : a = b := by
  funext y
  idx_vars y
  obtain rfl : y0 = 0 := Subsingleton.elim _ _
  exact h y1 y2 y3

/-- The two results, entry by entry: both are the answer. -/
theorem same_result (m : (ℓ : Loc Cert.KernelIdeal.nD Cert.KernelIdeal.τ Cert.KernelIdeal.sig) → Buf (Elt Ideal) ℓ) (c : Dev Cert.KernelIdeal.nD)
    (h : Cert.Pre_labels_in_range_inputs_finite.fn (F := Ideal)
      (m (c, Proc.devRef .tc Cert.KernelIdeal.main_arg0)) (m (c, Proc.devRef .tc Cert.KernelIdeal.main_arg1))
      (m (c, Proc.devRef .tc Cert.KernelIdeal.main_arg2)) (m (c, Proc.devRef .tc Cert.KernelIdeal.main_arg3))
      (m (c, Proc.devRef .tc Cert.KernelIdeal.main_arg4)) (m (c, Proc.devRef .tc Cert.KernelIdeal.main_arg5))
      (m (c, Proc.devRef .tc Cert.KernelIdeal.main_arg6)) (m (c, Proc.devRef .tc Cert.KernelIdeal.main_arg7)) = fun _ => 1#1) :
    Cert.ReferenceIdeal.Read.val_main_v267 (F := Ideal) (m (c, Proc.devRef .tc Cert.KernelIdeal.main_arg0))
      (m (c, Proc.devRef .tc Cert.KernelIdeal.main_arg2)) (m (c, Proc.devRef .tc Cert.KernelIdeal.main_arg3))
      (m (c, Proc.devRef .tc Cert.KernelIdeal.main_arg4)) (m (c, Proc.devRef .tc Cert.KernelIdeal.main_arg5))
      (m (c, Proc.devRef .tc Cert.KernelIdeal.main_arg6)) (m (c, Proc.devRef .tc Cert.KernelIdeal.main_arg7))
      = W5 m c (Proc.devRef .tc Cert.KernelIdeal.main_v0) := by
  obtain ⟨a2, a0, a3, a4, a5, a6, a7⟩ := Cert.Pre_labels_in_range_inputs_finite.decode _ _ _ _ _ _ _ _ h
  have hg : ∀ p, (argLabels m c p).toNat < 100 := fun p => (a2 _).1
  have H : (argWeights m c).Sound := ⟨fun k i => a5 _, fun k => a6 _, fun a b => a3 _, fun a b => a4 _, fun a b => a7 _⟩
  have hu : ∀ p k, Num (argScores m c p k) := fun p k => a0 _
  refine result_ext _ _ fun k i j => ?_
  exact (Cert.ReferenceIdeal.Hand.result_answer _ _ _ _ _ _ _ hg k i j).trans (kernel_answer H hu hg k i j).symm

/-- The kernel's program and the reference leave the same result, and their arguments as they were. -/
theorem algebraic : Cert.algebraic_KernelIdeal_ReferenceIdeal_pre_labels_in_range_inputs_finite (hKernelIdeal := Cert.KernelIdeal.Gen.facts)
    (hReferenceIdeal := Cert.ReferenceIdeal.Gen.facts) (hPre_labels_in_range_inputs_finite := Cert.Pre_labels_in_range_inputs_finite.facts) := by
  intro m g m' g' hpre hargs
  refine ⟨fun c => W5 m c (Proc.devRef .tc Cert.KernelIdeal.main_v0), ?_, ?_⟩
  · exact (θ_run Cert.KernelIdeal.defs _ _).mono (fun r h c =>
      ⟨h.1 c _ (mem_uc Cert.KernelIdeal.main_v0 (by decide)),
        (h.1 c _ (mem_uc Cert.KernelIdeal.main_arg0 (by decide))).trans (W5_arg0 m c), (h.1 c _ (mem_uc Cert.KernelIdeal.main_arg1 (by decide))).trans (W5_arg1 m c),
        (h.1 c _ (mem_uc Cert.KernelIdeal.main_arg2 (by decide))).trans (W5_arg2 m c), (h.1 c _ (mem_uc Cert.KernelIdeal.main_arg3 (by decide))).trans (W5_arg3 m c),
        (h.1 c _ (mem_uc Cert.KernelIdeal.main_arg4 (by decide))).trans (W5_arg4 m c), (h.1 c _ (mem_uc Cert.KernelIdeal.main_arg5 (by decide))).trans (W5_arg5 m c),
        (h.1 c _ (mem_uc Cert.KernelIdeal.main_arg6 (by decide))).trans (W5_arg6 m c), (h.1 c _ (mem_uc Cert.KernelIdeal.main_arg7 (by decide))).trans (W5_arg7 m c)⟩)
      (Cert.KernelIdeal.Hand.run m g)
  · refine (θ_run Cert.ReferenceIdeal.defs _ _).mono (fun r h c => ⟨?_, (h c).2⟩) (Cert.ReferenceIdeal.Value.run (F := Ideal) m' g')
    obtain ⟨e0, _, e2, e3, e4, e5, e6, e7⟩ := hargs c
    refine ((h c).1.trans (Cert.ReferenceIdeal.Read.val_main_v267_eq (launchContents m' c))).trans (Eq.trans ?_ (same_result m c (hpre c)))
    show Cert.ReferenceIdeal.Read.val_main_v267 (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) = _
    rw [e0, e2, e3, e4, e5, e6, e7]

end Cert.Hand
end
-- ==== Proof.lean ====
/- The certificate, assembled: the three programs leave their arguments as they were (proof/Proof/Frames.lean), and the kernel's result is
   the reference's when the labels are in range and the inputs are real numbers (proof/Proof/Equation.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Everything the certificate states. A program that leaves its arguments alone from every memory does so from those of the precondition. -/
theorem claim : Cert.Claim := ⟨Cert.Kernel.Gen.facts, Cert.KernelIdeal.Gen.facts, Cert.ReferenceIdeal.Gen.facts,
  Cert.Pre_labels_in_range_inputs_finite.facts,
  Cert.Hand.quiescent_Kernel, Cert.Hand.quiescent_KernelIdeal, fun m g _ => Cert.Hand.quiescent_KernelIdeal m g trivial,
  Cert.Hand.quiescent_ReferenceIdeal, fun m g _ => Cert.Hand.quiescent_ReferenceIdeal m g trivial, trivial, Cert.Hand.algebraic⟩

end Cert.Proof

end
